-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 512]⟩ ⟨2, ![1024, 512]⟩ (Layout.meshBlock [2, 2, 4] ![[0], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S512x512 : Shape := ⟨2, ![512, 512]⟩
abbrev S512 : Shape := ⟨1, ![512]⟩
abbrev S_ : Shape := ⟨0, ![]⟩

class Facts : Prop where
  bcast_S_S512x512 : S_.BroadcastsInDim S512x512 (![] : Fin 0 → Fin S512x512.rank)

variable [Facts]

def fn {F : FTy → Type} [FloatOps F] (main_arg0 : FVec F S512x512 .f32) (main_arg1 : FVec F S512x512 .f32) (main_arg2 : FVec F S512 .f32) : IVec S512x512 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  main_v2
-- ==== Pre_finite_x_ReferenceIdeal.lean ====
abbrev S1024x512 : Shape := ⟨2, ![1024, 512]⟩
abbrev S512 : Shape := ⟨1, ![512]⟩
abbrev S_ : Shape := ⟨0, ![]⟩

class Facts : Prop where
  bcast_S_S1024x512 : S_.BroadcastsInDim S1024x512 (![] : Fin 0 → Fin S1024x512.rank)

variable [Facts]

def fn {F : FTy → Type} [FloatOps F] (main_arg0 : FVec F S1024x512 .f32) (main_arg1 : FVec F S1024x512 .f32) (main_arg2 : FVec F S512 .f32) : IVec S1024x512 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  main_v2
-- ==== Kernel.lean ====
abbrev S512x512 : Shape := ⟨2, ![512, 512]⟩
abbrev S512 : Shape := ⟨1, ![512]⟩
abbrev S2x512 : Shape := ⟨2, ![2, 512]⟩
abbrev S2 : Shape := ⟨1, ![2]⟩
abbrev S2x2x512 : Shape := ⟨3, ![2, 2, 512]⟩
abbrev S_ : Shape := ⟨0, ![]⟩
abbrev S1 : Shape := ⟨1, ![1]⟩
abbrev S256x512 : Shape := ⟨2, ![256, 512]⟩
abbrev S1x512 : Shape := ⟨2, ![1, 512]⟩
abbrev S256 : Shape := ⟨1, ![256]⟩
abbrev S256x1 : Shape := ⟨2, ![256, 1]⟩
abbrev S1x1x512 : Shape := ⟨3, ![1, 1, 512]⟩
abbrev S1x2x512 : Shape := ⟨3, ![1, 2, 512]⟩

abbrev nBuf : Space → Nat
  | .hbm => 4
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512, .f32⟩
  | .hbm, ⟨3, _⟩ => ⟨S2x512, .f32⟩
  | .local _ .vmem, ⟨0, _⟩ => ⟨S512x512, .f32⟩
  | .local _ .vmem, ⟨1, _⟩ => ⟨S512x512, .f32⟩
  | .local _ .vmem, ⟨2, _⟩ => ⟨S2x2x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch4 : Ref sig .tc := ⟨.vmem, 2, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_76 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_75 : BitVec 32 := 8#32
  let v113 : BitVec 32 := Scalar.muli v9 c8_i32_75
  let v114 : BitVec 32 := Scalar.addi c0_i32_76 v113
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_77 : BitVec 32 := 4#32
  let v115 : BitVec 32 := Scalar.muli v5 c4_i32_77
  let v116 : BitVec 32 := Scalar.addi v114 v115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v117 : BitVec 32 := Scalar.muli v8 c1_i32_78
  let v118 : BitVec 32 := Scalar.addi v116 v117
  v118.toNat
-- ==== ReferenceIdeal.lean ====
abbrev S1024x512 : Shape := ⟨2, ![1024, 512]⟩
abbrev S512 : Shape := ⟨1, ![512]⟩
abbrev S_ : Shape := ⟨0, ![]⟩
abbrev S1024 : Shape := ⟨1, ![1024]⟩
abbrev S1024x1 : Shape := ⟨2, ![1024, 1]⟩
abbrev S1x512 : Shape := ⟨2, ![1, 512]⟩
abbrev S2x512 : Shape := ⟨2, ![2, 512]⟩

abbrev nBuf : Space → Nat
  | .hbm => 52
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S512, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .i32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S1024x1, .f32⟩
  | .hbm, ⟨26, _⟩ => ⟨S1024x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S1024x1, .f32⟩
  | .hbm, ⟨32, _⟩ => ⟨S1024x1, .f32⟩
  | .hbm, ⟨33, _⟩ => ⟨S_, .f32⟩
  | .hbm, ⟨34, _⟩ => ⟨S1024x1, .f32⟩
  | .hbm, ⟨35, _⟩ => ⟨S1024x1, .f32⟩
  | .hbm, ⟨36, _⟩ => ⟨S1024x1, .f32⟩
  | .hbm, ⟨37, _⟩ => ⟨S_, .f32⟩
  | .hbm, ⟨38, _⟩ => ⟨S1024x1, .f32⟩
  | .hbm, ⟨39, _⟩ => ⟨S1024x1, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S1024x512, .f32⟩
  | .hbm, ⟨44, _⟩ => ⟨S1024x512, .f32⟩
  | .hbm, ⟨45, _⟩ => ⟨S_, .f32⟩
  | .hbm, ⟨46, _⟩ => ⟨S512, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S1x512, .f32⟩
  | .hbm, ⟨51, _⟩ => ⟨S2x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Protocol.lean ====
/-
  The exchange between a device and its partner across the first mesh axis: the semaphore cells it uses, what each
  cell's one round hands over, what each device owes at launch and the order in which waits may happen.

  A device signals its partner's barrier cell once its own scratch may be written: with the signal goes the second slot
  of its exchange scratch, the landing slot. After its wait the partner's landing slot is its to write, and one remote copy carries its
  first slot (its own partial sums) there. The copy's departure pays the device's send cell with the first slot back;
  its arrival pays the partner's receive cell with the landing slot, now holding the sender's partial sums.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueLayout

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

/-! ## Ghost state: the pipeline library's, the exchange cells' rounds, the local copies' counters -/

/-- The ghost state of the exchange's rounds. -/
abbrev UX : Type := URounds (GSem nD τ sig) Unit
/-- All ghost state: the pipeline's, the exchange's, and the counters of the local copies. -/
abbrev UU : Type := UR sig nD τ × (UX × Counters)

local notation "𝕄" => MT nD τ sig Unit (Elt F) ℕ UU ℕ

/-- Where the pipeline's part sits. -/
abbrev EP : Emb (UR sig nD τ) (MT nD τ sig Unit (Elt F) ℕ UU ℕ) := embL
/-- The exchange cells' rounds sit in the left half of the second factor. -/
def ER : Emb UX (MT nD τ sig Unit (Elt F) ℕ UU ℕ) :=
  ((Emb.inl : Emb UX (UX × Counters)).trans (Emb.inr : Emb (UX × Counters) UU)).trans
    (uEmb (nD := nD) (sig := sig) (Ix := Unit) (Val := Elt F) (Name := ℕ) (U := UU) (Lvl := ℕ)).toEmb
/-- That part is user ghost state, so an invariant may hold it. -/
instance ER_lands : (ER : Emb UX 𝕄).LandsIn (upEmb : UEmb _ 𝕄) := by unfold ER; infer_instance

/-! ## The partner -/

/-- The device across the first mesh axis: eight away. -/
def peer (c : Dev nD) : Dev nD := ⟨(c.val + 8) % 16, Nat.mod_lt _ (by decide)⟩

/-- The partner's partner is the device itself. -/
theorem peer_peer (c : Dev nD) : peer (peer c) = c := by
  have h : c.val < 16 := c.isLt
  apply Fin.ext
  show ((c.val + 8) % 16 + 8) % 16 = c.val
  omega

/-- Taking partners, as a permutation of the devices. -/
def swap : Dev nD ≃ Dev nD := ⟨peer, peer, peer_peer, peer_peer⟩

/-- The device the barrier signal names is the partner. -/
theorem signal_dev (c : Dev nD) : (⟨k0_dev1 c, k0_dev1_lt c⟩ : Dev nD) = peer c := by
  have h : c.val < 16 := c.isLt
  apply Fin.ext
  show k0_dev1 c = (c.val + 8) % 16
  rw [k0_dev1_eq]
  omega

/-- The device the remote copy names is the partner. -/
theorem copy_dev (c : Dev nD) : (⟨k0_dev2 c, k0_dev2_lt c⟩ : Dev nD) = peer c := by
  have h : c.val < 16 := c.isLt
  apply Fin.ext
  show k0_dev2 c = (c.val + 8) % 16
  rw [k0_dev2_eq]
  omega

/-! ## Buffers and cells -/

/-- A device's block of `x`, -/
abbrev xIn : Memref sig .tc .hbm S512x512 .f32 := Memref.whole main_arg0
/-- of `dy`, -/
abbrev dyIn : Memref sig .tc .hbm S512x512 .f32 := Memref.whole main_arg1
/-- its result, -/
abbrev outM : Memref sig .tc .hbm S2x512 .f32 := Memref.whole main_v1
/-- the staged copy of its block of `x`, -/
abbrev xScr : Memref sig .tc .vmem S512x512 .f32 := Memref.whole cc0_scratch0
/-- of its block of `dy`, -/
abbrev dyScr : Memref sig .tc .vmem S512x512 .f32 := Memref.whole cc0_scratch1
/-- and its exchange scratch of two slots. -/
abbrev commM : Memref sig .tc .vmem S2x2x512 .f32 := Memref.whole cc0_scratch4

/-- The first slot of the exchange scratch: a device's own partial sums. -/
abbrev ownM : Memref sig .tc .vmem S2x512 .f32 :=
  (commM.slice (Rect.unit (s := S2x2x512) ![0, 0, 0] S1x2x512.size inb_S2x2x512_S1x2x512_0_0_0) (fun _ => rfl)).squeeze S2x512
    squeezes_S1x2x512_S2x512
/-- The second slot: where the partner's partial sums land. -/
abbrev landM : Memref sig .tc .vmem S2x512 .f32 :=
  (commM.slice (Rect.unit (s := S2x2x512) ![1, 0, 0] S1x2x512.size inb_S2x2x512_S1x2x512_1_0_0) (fun _ => rfl)).squeeze S2x512
    squeezes_S1x2x512_S2x512

/-- The barrier semaphore, -/
abbrev barS : Sem sig := (SemArray.scalar (sig.barrier 0 rfl) : Sems sig S_).sem
/-- the one a slot's departure pays, -/
abbrev sendS : DmaSem sig := (cc0_scratch5 : DmaSems sig S_).sem
/-- and the one its arrival pays. -/
abbrev recvS : DmaSem sig := (cc0_scratch6 : DmaSems sig S_).sem

/-- Device `c`'s barrier cell, -/
abbrev barCell (c : Dev nD) : GSem nD τ sig := ((c : Thread nD τ), .reg barS)
/-- send cell -/
abbrev sendCell (c : Dev nD) : GSem nD τ sig := ((c : Thread nD τ), .dma sendS)
/-- and receive cell. -/
abbrev recvCell (c : Dev nD) : GSem nD τ sig := ((c : Thread nD τ), .dma recvS)

/-- What one slot's copy pays the semaphores it names. -/
abbrev credit : ℕ := landM.view.dmaCredit
/-- It is not nothing. -/
theorem credit_pos : 0 < credit := View.dmaCredit_pos _ (by decide)

/-! ## Contents -/

variable (m : (ℓ : Loc nD τ sig) → Buf (Elt F) ℓ) (ρ : Dev nD → PrngReg)

/-- The first 256 rows of a block, -/
abbrev topR : Rect S512x512 := Rect.unit (s := S512x512) ![0, 0] S256x512.size inb_S512x512_S256x512_0_0
/-- and the last 256. -/
abbrev botR : Rect S512x512 := Rect.unit (s := S512x512) ![256, 0] S256x512.size inb_S512x512_S256x512_256_0

/-- The first 256 rows of a device's block of `x`. -/
def xTop (c : Dev nD) : Vec F S256x512 .f32 := (xIn.slice topR (fun _ => rfl)).view.read (Elt F) (m ((c : Thread nD τ).loc main_arg0))
/-- The last 256 rows of a device's block of `x`. -/
def xBot (c : Dev nD) : Vec F S256x512 .f32 := (xIn.slice botR (fun _ => rfl)).view.read (Elt F) (m ((c : Thread nD τ).loc main_arg0))
/-- The first 256 rows of its block of `dy`. -/
def dyTop (c : Dev nD) : Vec F S256x512 .f32 := (dyIn.slice topR (fun _ => rfl)).view.read (Elt F) (m ((c : Thread nD τ).loc main_arg1))
/-- The last 256 rows of its block of `dy`. -/
def dyBot (c : Dev nD) : Vec F S256x512 .f32 := (dyIn.slice botR (fun _ => rfl)).view.read (Elt F) (m ((c : Thread nD τ).loc main_arg1))

/-- A device's partial sums for the gain's gradient, as the kernel computes them. -/
def gammaSum (c : Dev nD) : Vec F S1x1x512 .f32 :=
  k0_pay11 (k0_pay6 k0_pay2 (xTop m c) (dyTop m c) (k0_pay4 (xTop m c)) (k0_pay5 (xTop m c))) (xBot m c) (dyBot m c) (k0_pay8 (xBot m c))
    (k0_pay9 (xBot m c)) (k0_pay10 (xBot m c))
/-- A device's partial sums for the offset's gradient. -/
def betaSum (c : Dev nD) : Vec F S1x1x512 .f32 := k0_pay12 (k0_pay7 k0_pay3 (dyTop m c)) (dyBot m c)

/-- Either slot holding device `c`'s partial sums: the gain's row, then the offset's. -/
def sums (c : Dev nD) : Vec F S2x2x512 .f32 := fun i =>
  if (i 1).val = 0 then gammaSum m c (ix3 0 0 (i 2)) else betaSum m c (ix3 0 0 (i 2))

/-- The kernel's result on device `c`. -/
def outAt (c : Dev nD) : Vec F S2x512 .f32 := fun i =>
  FloatOps.addf (sums m c (ix3 0 (i 0) (i 1))) (sums m (peer c) (ix3 0 (i 0) (i 1)))

/-- Device `c`'s first slot at contents `f`. -/
def ownPts (c : Dev nD) (f : Buf (Elt F) (ownM.view.loc (c : Thread nD τ))) : sProp 𝕄 :=
  ownM.view.loc (c : Thread nD τ) ↦[ownM.view.set]{fullShare} f
/-- Device `c`'s landing slot at contents `f`. -/
def landPts (c : Dev nD) (f : Buf (Elt F) (landM.view.loc (c : Thread nD τ))) : sProp 𝕄 :=
  landM.view.loc (c : Thread nD τ) ↦[landM.view.set]{fullShare} f

omit [FloatOps F] in
/-- An invariant may hold the first slot, -/
instance ownPts_storable (c : Dev nD) (f) : BI.Storable (upEmb : UEmb _ 𝕄) (ownPts (F := F) c f) := by unfold ownPts; infer_instance
omit [FloatOps F] in
/-- or the landing slot. -/
instance landPts_storable (c : Dev nD) (f) : BI.Storable (upEmb : UEmb _ 𝕄) (landPts (F := F) c f) := by unfold landPts; infer_instance

/-! ## The schedule -/

/-- What the partner's signal hands `c`: the partner's landing slot, and that its receive cell is in its round. -/
def barPay (c : Dev nD) : sProp 𝕄 := iprop((∃ f, landPts (peer c) f) ∗ reached ER (recvCell (peer c)) 0)
/-- What the departure hands back: the device's own slot. -/
def sendPay (c : Dev nD) : sProp 𝕄 := ownPts c (sums m c)
/-- What the arrival hands over: the landing slot holding the partner's partial sums. -/
def recvPay (c : Dev nD) : sProp 𝕄 := landPts c (sums m (peer c))

/-- The exchange's three kinds of cell, on a TensorCore. -/
abbrev InExchange (g : GSem nD τ sig) : Prop := g.1.2 = .tc ∧ (g.2 = .reg barS ∨ g.2 = .dma sendS ∨ g.2 = .dma recvS)

/-- One round per cell with one duty in it: a unit on a barrier cell, a slot's credit on a send or receive cell. -/
def sched : Rounds.Schedule (GSem nD τ sig) Unit 𝕄 where
  duties g r := if r = 0 ∧ InExchange g then {()} else ∅
  unitless _ := False
  amount g _ _ := if g.2 = .reg barS then 1 else credit
  payload g _ _ :=
    if g.2 = .reg barS then barPay g.1.1
    else if g.2 = .dma sendS then sendPay m g.1.1
    else if g.2 = .dma recvS then recvPay m g.1.1
    else iprop(emp)
  amount_pos g _ _ _ := by
    split
    · exact Nat.one_pos
    · exact credit_pos

/-- Every payload may be kept in an invariant. -/
instance sched_storable (g : GSem nD τ sig) (r : ℕ) (d : Unit) : BI.Storable (upEmb : UEmb _ 𝕄) ((sched (F := F) m).payload g r d) := by
  show BI.Storable upEmb (if g.2 = .reg barS then barPay g.1.1 else if g.2 = .dma sendS then sendPay m g.1.1
    else if g.2 = .dma recvS then recvPay m g.1.1 else iprop(emp))
  unfold barPay recvPay sendPay
  (repeat' split) <;> infer_instance

/-- A DMA semaphore is no regular one. -/
theorem dma_ne_reg (q : DmaSem sig) (s : Sem sig) : (SemLoc.dma q : SemLoc sig) ≠ .reg s := fun h => by cases h
/-- Arrival and departure pay different semaphores. -/
theorem recv_ne_send : (SemLoc.dma recvS : SemLoc sig) ≠ .dma sendS := by decide

/-- The three cells of a device by number: barrier, send, receive. -/
abbrev csem : Fin 3 → SemLoc sig := fun | 0 => .reg barS | 1 => .dma sendS | 2 => .dma recvS
/-- The cell of a device and a number. -/
abbrev kcell (ck : Dev nD × Fin 3) : GSem nD τ sig := ((ck.1 : Thread nD τ), csem ck.2)

/-- Every one of them has its duty in round 0, -/
theorem duties_kcell (c : Dev nD) (k : Fin 3) : (sched (F := F) m).duties (kcell (c, k)) 0 = {()} := by
  refine if_pos ⟨rfl, rfl, ?_⟩
  match k with
  | 0 => exact .inl rfl
  | 1 => exact .inr (.inl rfl)
  | 2 => exact .inr (.inr rfl)
/-- so that duty is a member, -/
theorem duty_mem (c : Dev nD) (k : Fin 3) : () ∈ (sched (F := F) m).duties (kcell (c, k)) 0 := by
  rw [duties_kcell]; exact Finset.mem_singleton_self _
/-- and none later. -/
theorem duties_later (g : GSem nD τ sig) : ∀ r, 1 ≤ r → (sched (F := F) m).duties g r = ∅ :=
  fun r hr => if_neg fun h => by omega

/-- The barrier is paid one signal. -/
theorem amount_bar (c : Dev nD) : (sched (F := F) m).amount (barCell c) 0 () = 1 := by dsimp only [sched]; exact if_pos rfl
/-- A DMA cell is paid one slot's copy. -/
theorem amount_dma (c : Dev nD) (q : DmaSem sig) : (sched (F := F) m).amount ((c : Thread nD τ), .dma q) 0 () = credit := by
  dsimp only [sched]; exact if_neg (dma_ne_reg q barS)

/-- A cell's round expects its one duty's amount. -/
theorem expect_kcell (c : Dev nD) (k : Fin 3) : (sched (F := F) m).expect (kcell (c, k)) 0 = (sched (F := F) m).amount (kcell (c, k)) 0 () := by
  unfold Schedule.expect Schedule.amountOf
  rw [duties_kcell, Finset.sum_singleton]
/-- The barrier expects one, -/
theorem expect_bar (c : Dev nD) : (sched (F := F) m).expect (barCell c) 0 = 1 := (expect_kcell m c 0).trans (amount_bar m c)
/-- the send cell one slot's copy, -/
theorem expect_send (c : Dev nD) : (sched (F := F) m).expect (sendCell c) 0 = credit := (expect_kcell m c 1).trans (amount_dma m c _)
/-- and the receive cell the same. -/
theorem expect_recv (c : Dev nD) : (sched (F := F) m).expect (recvCell c) 0 = credit := (expect_kcell m c 2).trans (amount_dma m c _)

/-- With the barrier's signal comes its payload, the partner's landing slot; -/
theorem payload_bar (c : Dev nD) : (sched (F := F) m).payload (barCell c) 0 () = barPay c := by dsimp only [sched]; exact if_pos rfl
/-- with the departure the first slot back; -/
theorem payload_send (c : Dev nD) : (sched (F := F) m).payload (sendCell c) 0 () = sendPay m c := by
  dsimp only [sched]; rw [if_neg (dma_ne_reg _ _), if_pos rfl]
/-- with the arrival the landing slot, holding the partner's sums. -/
theorem payload_recv (c : Dev nD) : (sched (F := F) m).payload (recvCell c) 0 () = recvPay m c := by
  dsimp only [sched]; rw [if_neg (dma_ne_reg _ _), if_neg recv_ne_send, if_pos rfl]

/-- The whole round of a cell, no duty taken yet, is its one payload. -/
theorem rest_kcell (c : Dev nD) (k : Fin 3) :
    bigSep ((sched (F := F) m).duties (kcell (c, k)) 0 \ ∅) (fun d => (sched (F := F) m).payload (kcell (c, k)) 0 d)
      = (sched (F := F) m).payload (kcell (c, k)) 0 () := by
  rw [Finset.sdiff_empty, duties_kcell, bigSep_singleton]

/-! ## Debts and levels -/

/-- What a device still owes after its signal: the arrival at its partner. -/
abbrev owedCopy (c : Dev nD) : CellTallies nD τ sig Unit := tallyAt (recvCell (peer c)) () credit
/-- At launch it owes that and the signal. -/
def owed0 (c : Dev nD) : CellTallies nD τ sig Unit := owedCopy c + tallyAt (barCell (peer c)) () 1

/-- The cells that have a level: those of the TensorCores. -/
def L (g : GSem nD τ sig) : Finset Unit := if g.1.2 = .tc then {()} else ∅
/-- Local copies and departures come first, then the barrier, then the arrivals. -/
def lv (g : GSem nD τ sig) (_ : Unit) : ℕ := if g.2 = .reg barS then 1 else if g.2 = .dma recvS then 2 else 0

/-- Other cells have none. -/
theorem L_of_ne (g : GSem nD τ sig) (h : g.1.2 ≠ .tc) : L g = ∅ := if_neg h
/-- A TensorCore's cell has the one. -/
theorem L_tc (c : Dev nD) (sm : SemLoc sig) : L ((c : Thread nD τ), sm) = {()} := if_pos rfl

/-- The barrier's level, -/
theorem lv_bar (c : Dev nD) : lv (barCell c) () = 1 := if_pos rfl
/-- the receive cell's, -/
theorem lv_recv (c : Dev nD) : lv (recvCell c) () = 2 := (if_neg (dma_ne_reg _ _)).trans (if_pos rfl)
/-- and that of every other DMA cell. -/
theorem lv_dma (c : Dev nD) (q : DmaSem sig) (hq : SemLoc.dma q ≠ .dma recvS) : lv ((c : Thread nD τ), .dma q) () = 0 :=
  (if_neg (dma_ne_reg _ _)).trans (if_neg hq)

/-- Only the partner's receive cell is owed after the signal. -/
theorem owedCopy_pos {c : Dev nD} {g : GSem nD τ sig} {u : Unit} (h : 0 < owedCopy c g u) : g = recvCell (peer c) := by
  rw [tallyAt_apply] at h
  by_contra hn
  rw [if_neg fun h' => hn h'.1] at h
  exact Nat.lt_irrefl 0 h

/-- With that owed, a device may wait on any cell below the receive cells. -/
theorem mayWait_owing (c : Dev nD) (sm : SemLoc sig) (hsm : lv ((c : Thread nD τ), sm) () < 2) :
    (levAts L lv : sProp 𝕄) ⊢ MayWait (c : Thread nD τ) sm () (owedCopy c) :=
  MayOwe.of_cut (L := L) (lev := lv) 1 (fun p hp => by rw [Finset.mem_singleton.mp hp, L_tc]; exact Finset.mem_singleton_self _)
    (fun g u hg => by rw [owedCopy_pos hg, L_tc]; exact Finset.mem_singleton_self _)
    (fun p hp => by rw [Finset.mem_singleton.mp hp]; exact Nat.le_of_lt_succ hsm)
    (fun g u hg => by rw [owedCopy_pos hg]; show 1 < lv (recvCell (peer c)) (); rw [lv_recv]; decide)

/-- It may wait on a local copy's cell, -/
theorem mayWait_local (c : Dev nD) (q : DmaSem sig) (hq : SemLoc.dma q ≠ .dma recvS) :
    (levAts L lv : sProp 𝕄) ⊢ MayWait (c : Thread nD τ) (.dma q) () (owedCopy c) :=
  mayWait_owing c _ (by rw [lv_dma c q hq]; decide)
/-- and on its barrier cell. -/
theorem mayWait_bar (c : Dev nD) : (levAts L lv : sProp 𝕄) ⊢ MayWait (c : Thread nD τ) (.reg barS) () (owedCopy c) :=
  mayWait_owing c _ (by rw [lv_bar]; decide)

end Cert.Exchange

end
-- ==== Proof.Slots.lean ====
/-
  The two slots of the exchange scratch: which elements each covers, and what a copy from the first into the second, the
  kernel's stores into the first and its loads from both leave or read there.
-/
module

public import proofs.«01_k».proof.Proof.Protocol
public import Idealize.ShloMosaic.Lib.ViewIndex

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

variable (m : (ℓ : Loc nD τ sig) → Buf (Elt F) ℓ)

/-- The first slot's element `(r, l)` is the scratch's `(0, r, l)`; -/
theorem own_emb (r : Fin 2) (l : Fin 512) : ownM.view.emb (ix2 r l) = (ix3 0 r l : S2x2x512.Idx) := by
  show (Rect.unit (s := S2x2x512) ![0, 0, 0] S1x2x512.size inb_S2x2x512_S1x2x512_0_0_0).emb
    (Shape.reshapeEquiv squeezes_S1x2x512_S2x512.numel_eq (ix2 r l)) = _
  rw [reshapeEquiv_ix2_1ab]
  exact Shape.idx3_ext (by simp [Rect.emb, Rect.unit, ix3]) (by simp [Rect.emb, Rect.unit, ix3]) (by simp [Rect.emb, Rect.unit, ix3])
/-- the landing slot's is `(1, r, l)`. -/
theorem land_emb (r : Fin 2) (l : Fin 512) : landM.view.emb (ix2 r l) = (ix3 1 r l : S2x2x512.Idx) := by
  show (Rect.unit (s := S2x2x512) ![1, 0, 0] S1x2x512.size inb_S2x2x512_S1x2x512_1_0_0).emb
    (Shape.reshapeEquiv squeezes_S1x2x512_S2x512.numel_eq (ix2 r l)) = _
  rw [reshapeEquiv_ix2_1ab]
  exact Shape.idx3_ext (by simp [Rect.emb, Rect.unit, ix3]) (by simp [Rect.emb, Rect.unit, ix3]) (by simp [Rect.emb, Rect.unit, ix3])

/-- The first slot's elements are those with first coordinate 0, -/
theorem mem_own {i : S2x2x512.Idx} : i ∈ ownM.view.set ↔ (i 0).val = 0 := by
  constructor
  · intro h
    obtain ⟨y, -, e⟩ := Finset.mem_map.mp h
    rw [← e, show ownM.view.emb y = _ from (congrArg ownM.view.emb (eq_ix2 y)).trans (own_emb (y 0) (y 1))]; rfl
  · intro h
    refine Finset.mem_map.mpr ⟨ix2 (i 1) (i 2), Finset.mem_univ _, ?_⟩
    exact (own_emb (i 1) (i 2)).trans (Shape.idx3_ext h.symm rfl rfl)
/-- the landing slot's those with first coordinate 1. -/
theorem mem_land {i : S2x2x512.Idx} : i ∈ landM.view.set ↔ (i 0).val = 1 := by
  constructor
  · intro h
    obtain ⟨y, -, e⟩ := Finset.mem_map.mp h
    rw [← e, show landM.view.emb y = _ from (congrArg landM.view.emb (eq_ix2 y)).trans (land_emb (y 0) (y 1))]; rfl
  · intro h
    refine Finset.mem_map.mpr ⟨ix2 (i 1) (i 2), Finset.mem_univ _, ?_⟩
    exact (land_emb (i 1) (i 2)).trans (Shape.idx3_ext h.symm rfl rfl)

/-- Between them they are the whole scratch. -/
theorem rest_own : (Finset.univ \ ownM.view.set : Finset S2x2x512.Idx) = landM.view.set := by
  ext i
  have h : (i 0).val < 2 := (i 0).isLt
  rw [Finset.mem_sdiff, mem_own, mem_land]
  constructor
  · rintro ⟨-, h'⟩; omega
  · intro h'; exact ⟨Finset.mem_univ _, by omega⟩

omit [FloatOps F] in
/-- The whole scratch is its two slots. -/
theorem comm_split (c : Dev nD) (f : Buf (Elt F) ((c : Thread nD τ).loc cc0_scratch4)) :
    (((c : Thread nD τ).loc cc0_scratch4) ↦{fullShare} f : sProp 𝕄) ⊢ iprop(ownPts c f ∗ landPts c f) := by
  have h := (pointsTo_split_subset (Ix := Unit) (Name := ℕ) (U := UU) (Lvl := ℕ) (ℓ := (c : Thread nD τ).loc cc0_scratch4) (q := fullShare) (f := f)
    (Finset.subset_univ (ownM.view.set : Finset S2x2x512.Idx))).1
  rw [rest_own] at h
  exact h

omit [FloatOps F] in
/-- The two slots, whatever each holds, are the whole scratch at some contents. -/
theorem comm_join (c : Dev nD) (f g : Buf (Elt F) ((c : Thread nD τ).loc cc0_scratch4)) :
    iprop(ownPts c f ∗ landPts c g)
      ⊢ (∃ h : Buf (Elt F) ((c : Thread nD τ).loc cc0_scratch4), ((c : Thread nD τ).loc cc0_scratch4) ↦{fullShare} h : sProp 𝕄) := by
  have h := pointsTo_join_subset (Ix := Unit) (Name := ℕ) (U := UU) (Lvl := ℕ) (ℓ := (c : Thread nD τ).loc cc0_scratch4) (q := fullShare) (f := g) (g := f)
    (Finset.subset_univ (ownM.view.set : Finset S2x2x512.Idx))
  rw [rest_own] at h
  have h' : (iprop(ownPts c f ∗ landPts c g) : sProp 𝕄) ⊢ ((c : Thread nD τ).loc cc0_scratch4) ↦{fullShare} ownM.view.set.piecewise f g := h
  iintro H
  ihave Hj := h' $$ H
  iexists _
  iexact Hj

omit [FloatOps F] in
/-- A first slot's contents matter at its own elements only. -/
theorem own_congr (c : Dev nD) {f g : Vec F S2x2x512 .f32} (h : ∀ r l, f (ix3 0 r l) = g (ix3 0 r l)) : (ownPts c f : sProp 𝕄) = ownPts c g :=
  pointsTo_congr fun i hi => by
    have e : i = ix3 0 (i 1) (i 2) := Shape.idx3_ext (mem_own.mp hi) rfl rfl
    rw [e]; exact h _ _
omit [FloatOps F] in
/-- So do a landing slot's. -/
theorem land_congr (c : Dev nD) {f g : Vec F S2x2x512 .f32} (h : ∀ r l, f (ix3 1 r l) = g (ix3 1 r l)) : (landPts c f : sProp 𝕄) = landPts c g :=
  pointsTo_congr fun i hi => by
    have e : i = ix3 1 (i 1) (i 2) := Shape.idx3_ext (mem_land.mp hi) rfl rfl
    rw [e]; exact h _ _

/-- A copy of the first slot, holding `c`'s partial sums, leaves them in the landing slot it goes to. -/
theorem landed (c d : Dev nD) (fd : Vec F S2x2x512 .f32) :
    (landPts d (landM.view.write (Elt F) fd (ownM.view.read (Elt F) (sums m c)) Finset.univ) : sProp 𝕄) = landPts d (sums m c) :=
  land_congr d fun r l => by
    rw [← land_emb]
    show (landM.view.write (Elt F) fd (ownM.view.read (Elt F) (sums m c)) Finset.univ) (landM.view.emb (ix2 r l)) = sums m c (landM.view.emb (ix2 r l))
    refine View.eq_of_read_eq (v := landM.view) ?_
    rw [View.read_write_of_mem _ _ (Finset.mem_univ _)]
    show sums m c (ownM.view.emb (ix2 r l)) = sums m c (landM.view.emb (ix2 r l))
    rw [own_emb, land_emb]
    rfl

/-! ## Stores and loads -/

/-- The two rows of the first slot, and the two whole slots, as rectangles of the scratch. -/
abbrev gammaR : Rect S2x2x512 := Rect.unit (s := S2x2x512) ![0, 0, 0] S1x1x512.size inb_S2x2x512_S1x1x512_0_0_0
/-- The offset's row of the first slot, -/
abbrev betaR : Rect S2x2x512 := Rect.unit (s := S2x2x512) ![0, 1, 0] S1x1x512.size inb_S2x2x512_S1x1x512_0_1_0
/-- the whole first slot, -/
abbrev ownR : Rect S2x2x512 := Rect.unit (s := S2x2x512) ![0, 0, 0] S1x2x512.size inb_S2x2x512_S1x2x512_0_0_0
/-- and the whole landing slot, as rectangles of the scratch. -/
abbrev landR : Rect S2x2x512 := Rect.unit (s := S2x2x512) ![1, 0, 0] S1x2x512.size inb_S2x2x512_S1x2x512_1_0_0

/-- An element of a unit-stride rectangle of the scratch, a coordinate at a time: offset plus index. -/
theorem access_val (off size : Fin 3 → ℕ) (inb) (y : (Rect.unit (s := S2x2x512) off size inb).shape.Idx) (a : Fin 3) :
    ((commM.access (Rect.unit (s := S2x2x512) off size inb)).emb y a).val = off a + (y a).val := by
  show ((Rect.unit (s := S2x2x512) off size inb).emb y a).val = _
  simp [Rect.emb, Rect.unit]

/-- The same for the rectangle's own index map. -/
theorem slot_idx (off : Fin 3 → ℕ) (inb) (y : (Rect.unit (s := S2x2x512) off S1x2x512.size inb).shape.Idx) (a : Fin 3) :
    (commM.view.emb ((Rect.unit (s := S2x2x512) off S1x2x512.size inb).toLoadRect.idx y) a).val = off a + (y a).val := access_val off S1x2x512.size inb y a

/-- A rectangle in the scratch's first half lies in the first slot, -/
theorem access_own {off size : Fin 3 → ℕ} {inb} (h : off 0 + size 0 = 1) (M : Finset (Rect.unit (s := S2x2x512) off size inb).shape.Idx) :
    (commM.access (Rect.unit (s := S2x2x512) off size inb)).setOn M ⊆ ownM.view.set := fun i hi => by
  obtain ⟨y, -, e⟩ := Finset.mem_map.mp hi
  refine mem_own.mpr ?_
  have hy : (y 0).val < size 0 := (y 0).isLt
  rw [← e]
  exact (access_val off size inb y 0).trans (by omega)
/-- one in its second half in the landing slot. -/
theorem access_land (M : Finset landR.shape.Idx) : (commM.access landR).setOn M ⊆ landM.view.set := fun i hi => by
  obtain ⟨y, -, e⟩ := Finset.mem_map.mp hi
  refine mem_land.mpr ?_
  have hy : (y 0).val < 1 := (y 0).isLt
  rw [← e]
  exact (access_val _ _ _ y 0).trans (by show 1 + (y 0).val = 1; omega)

omit [FloatOps F] in
/-- Stores into the scratch as a list of pieces: two rows, -/
theorem rows_writes (f : Vec F S2x2x512 .f32) (g b : Vec F S1x1x512 .f32) :
    (commM.access betaR).write (Elt F) ((commM.access gammaR).write (Elt F) f g Finset.univ) b Finset.univ
      = commM.view.writes (Elt F) f [⟨betaR, b⟩, ⟨gammaR, g⟩] := rfl
omit [FloatOps F] in
/-- and one slot. -/
theorem slot_writes (f : Vec F S2x2x512 .f32) (g : Vec F S1x2x512 .f32) :
    (commM.access ownR).write (Elt F) f g Finset.univ = commM.view.writes (Elt F) f [⟨ownR, g⟩] := rfl

/-- After both rows are stored the first slot holds the device's partial sums. -/
theorem stored (c : Dev nD) (f : Vec F S2x2x512 .f32) :
    (ownPts c ((commM.access betaR).write (Elt F) ((commM.access gammaR).write (Elt F) f (gammaSum m c) Finset.univ) (betaSum m c) Finset.univ) : sProp 𝕄)
      = ownPts c (sums m c) :=
  own_congr c fun r l => by
    rw [rows_writes]
    refine (congrFun (View.read_whole cc0_scratch4 _) (ix3 0 r l)).symm.trans ?_
    obtain rfl | rfl : r = 0 ∨ r = 1 := by omega
    · rw [View.read_writes_cons_miss_of_axis _ _ _ _ _ 1 1 1 rfl rfl rfl (.inl Nat.one_pos),
        View.read_writes_cons_hit_of_coords _ _ gammaR (gammaSum m c) _ (ix3 (0 : Fin 1) (0 : Fin 1) l : S1x1x512.Idx) _
          (by intro a; fin_cases a <;> simp [gammaR, Rect.unit, ix3])]
      exact (if_pos rfl).symm
    · rw [View.read_writes_cons_hit_of_coords _ _ betaR (betaSum m c) _ (ix3 (0 : Fin 1) (0 : Fin 1) l : S1x1x512.Idx) _
          (by intro a; fin_cases a <;> simp [betaR, Rect.unit, ix3])]
      exact (if_neg Nat.one_ne_zero).symm

/-- The total as the final store leaves it in the first slot. -/
def total (c : Dev nD) : Vec F S2x2x512 .f32 := fun i => outAt m c (ix2 (i 1) (i 2))

/-- The final store leaves the total of both slots in the first. -/
theorem stored_total (c : Dev nD) (f : Vec F S2x2x512 .f32) :
    (ownPts c ((commM.access ownR).write (Elt F) f
        (k0_pay1 ((commM.access ownR).read (Elt F) (sums m c)) ((commM.access landR).read (Elt F) (sums m (peer c)))) Finset.univ) : sProp 𝕄)
      = ownPts c (total m c) :=
  own_congr c fun r l => by
    rw [slot_writes]
    refine (congrFun (View.read_whole cc0_scratch4 _) (ix3 0 r l)).symm.trans ?_
    rw [View.read_writes_cons_hit_of_coords _ _ ownR _ _ (ix3 (0 : Fin 1) r l : S1x2x512.Idx) _
          (by intro a; fin_cases a <;> simp [ownR, Rect.unit, ix3])]
    unfold k0_pay1
    refine (shapeCast_ab_1ab_apply _ _ (0 : Fin 1) r l).trans ?_
    refine congrArg₂ FloatOps.addf (shapeCast_1ab_ab_apply _ _ r l) (shapeCast_1ab_ab_apply _ _ r l) |>.trans ?_
    refine congrArg₂ FloatOps.addf (congrArg (sums m c) (?_ : _ = ix3 0 r l)) ((congrArg (sums m (peer c)) (?_ : _ = ix3 1 r l)).trans rfl)
    · exact Shape.idx3_ext (slot_idx _ _ _ 0) ((slot_idx _ _ _ 1).trans (Nat.zero_add _)) ((slot_idx _ _ _ 2).trans (Nat.zero_add _))
    · exact Shape.idx3_ext (slot_idx _ _ _ 0) ((slot_idx _ _ _ 1).trans (Nat.zero_add _)) ((slot_idx _ _ _ 2).trans (Nat.zero_add _))

/-- The first slot, holding the total, reads as the result. -/
theorem read_total (c : Dev nD) : ownM.view.read (Elt F) (total m c) = outAt m c := by
  funext i
  show total m c (ownM.view.emb i) = _
  rw [eq_ix2 i]
  exact congrArg (total m c) (own_emb (i 0) (i 1))

/-- A load of the rectangle written last reads what was written there. -/
theorem readCov_last [∀ e, Nonempty (Elt F e)] {sp : Space} {s : Shape} {e : EltTy} (v : View sig .tc sp s e) (r : Rect s)
    (w : r.shape.Idx → Elt F e) (P : List (View.Piece (Elt F) s e)) : v.readCov (⟨r, w⟩ :: P) r.toLoadRect = w :=
  funext fun y => View.read_writes_cons_emb v _ r w P y

/-- After both row chunks of an operand have landed, a load of the first chunk reads the first. -/
theorem readCov_top [∀ e, Nonempty (Elt F e)] {sp : Space} (v : View sig .tc sp S512x512 .f32) (w w' : Vec F S256x512 .f32) (P : List (View.Piece (Elt F) S512x512 .f32)) :
    v.readCov (⟨botR, w'⟩ :: ⟨topR, w⟩ :: P) topR.toLoadRect = w :=
  funext fun y => by
    have hy : (y 0).val < 256 := (y 0).isLt
    refine (View.read_writes_cons_miss_of_axis v _ _ _ (topR.toLoadRect.idx y) 0 256 256 rfl rfl rfl (.inl ?_)).trans (View.read_writes_cons_emb v _ topR w P y)
    show 0 + 1 * (y 0).val < 256
    omega

/-- The copy out of the first slot, holding the total, leaves the result in the result array. -/
theorem copied_out (c : Dev nD) (o w : Vec F S2x512 .f32) (hw : w = outAt m c) : outM.view.write (Elt F) o w Finset.univ = outAt m c :=
  funext fun i => (congrFun (View.read_whole main_v1 _) i).symm.trans ((View.read_write_of_mem (v := outM.view) o w (Finset.mem_univ i)).trans (congrFun hw i))

end Cert.Exchange

end
-- ==== Proof.Body.lean ====
/-
  The kernel on one device, executed statement by statement from what the launch gives it to what it leaves.
-/
module

public import proofs.«01_k».proof.Proof.Slots

@[expose] public section

noncomputable section

namespace Cert.Exchange

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-- The body has no loop to measure. -/
abbrev 𝒱₀ : Variants := Variants.none

/-- The invariants a device's body opens: its own three cells', its partner's barrier cell's and its partner's receive cell's. -/
def invs (K : Dev nD × Fin 3 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (peer c, 0)) (barCell (peer c)) ∗ cellInv ER (sched m) (K (peer c, 2)) (recvCell (peer c)))

/-- Invariants may be used more than once. -/
instance invs_persistent (K : Dev nD × Fin 3 → ℕ) (c : Dev nD) : BI.Persistent (invs m K c) := by unfold invs; infer_instance

/-- The exchange's ghost state a device starts from. -/
def ghost (K : Dev nD × Fin 3 → ℕ) (c : Dev nD) : sProp 𝕄 :=
  iprop(invs m K c
    ∗ (atPos ER (barCell c) 0 ∅ 0 ∗ atPos ER (sendCell c) 0 ∅ 0 ∗ atPos ER (recvCell c) 0 ∅ 0)
    ∗ (reached ER (barCell (peer c)) 0 ∗ reached ER (recvCell (peer c)) 0 ∗ reached ER (sendCell c) 0 ∗ reached ER (recvCell c) 0)
    ∗ (dutyTok ER (barCell (peer c)) 0 () ∗ dutyTok ER (recvCell (peer c)) 0 () ∗ dutyTok ER (sendCell c) 0 ()))

/-- A DMA semaphore of device `c` as a cell of the machine. -/
abbrev locCell (c : Dev nD) (q : DmaSem sig) : GSem nD τ sig := ((c : Thread nD τ), .dma q)

/-- The five semaphores of the local copies, at zero. -/
def locals (c : Dev nD) : sProp 𝕄 :=
  iprop(semVal (locCell c 0) 0 ∗ semVal (locCell c 1) 0 ∗ semVal (locCell c 2) 0 ∗ semVal (locCell c 3) 0 ∗ semVal (locCell c 6) 0)

/-- The arrays the body copies from and into: both operands' blocks and the result. -/
def arrays (c : Dev nD) (x : Vec F S512x512 .f32) (dy : Vec F S512x512 .f32) (o : Vec F S2x512 .f32) : sProp 𝕄 :=
  iprop(((xIn.view.loc (c : Thread nD τ)) ↦{fullShare} x) ∗ ((dyIn.view.loc (c : Thread nD τ)) ↦{fullShare} dy) ∗ ((outM.view.loc (c : Thread nD τ)) ↦{fullShare} o))

/-- The scratch buffers, each at some contents. -/
def scratch (c : Dev nD) : sProp 𝕄 :=
  iprop((∃ f : Buf (Elt F) ((c : Thread nD τ).loc cc0_scratch0), (xScr.view.loc (c : Thread nD τ)) ↦{fullShare} f)
    ∗ (∃ f : Buf (Elt F) ((c : Thread nD τ).loc cc0_scratch1), (dyScr.view.loc (c : Thread nD τ)) ↦{fullShare} f)
    ∗ (∃ f : Buf (Elt F) ((c : Thread nD τ).loc cc0_scratch4), ((c : Thread nD τ).loc cc0_scratch4) ↦{fullShare} f))

/-- A part that has nothing left to do hands on to what follows it. -/
theorem wp_done {Q : PUnit → sProp 𝕄} (c : Dev nD) :
    Q ⟨⟩ ⊢ wp frame (wpE (defs₀ (F := F)) 𝒱₀ (c : Thread nD τ) none) Set.univ
      ((Prog.ret PUnit.unit : Prog (TpuEff nD τ sig (Elt F) Λ₀ .tc) PUnit).bind fun _ => Pure.pure PUnit.unit) Q := by
  show Q ⟨⟩ ⊢ wp frame (wpE (defs₀ (F := F)) 𝒱₀ (c : Thread nD τ) none) Set.univ (Prog.ret PUnit.unit) Q
  rw [wp_ret]
  exact fupd_intro

/-- A load within the first slot, -/
theorem wp_load_own {α : Type} {Q : α → sProp 𝕄} (c : Dev nD) (f : Vec F S2x2x512 .f32) {off size : Fin 3 → ℕ} {inb} (h : off 0 + size 0 = 1)
    {hl : commM.view.LoadsAt (Rect.unit (s := S2x2x512) off size inb).toLoadRect}
    {k : ((Rect.unit (s := S2x2x512) off size inb).shape.Idx → Elt F .f32) → Prog (TpuEff nD τ sig (Elt F) Λ₀ .tc) α} :
    (ownPts c f : sProp 𝕄)
      ⊢ iprop((ownPts c f -∗ wp frame (wpE (defs₀ (F := F)) 𝒱₀ (c : Thread nD τ) none) Set.univ
            (k ((commM.access (Rect.unit (s := S2x2x512) off size inb)).read (Elt F) f)) Q)
          -∗ wp frame (wpE (defs₀ (F := F)) 𝒱₀ (c : Thread nD τ) none) Set.univ (.op (.load commM (Rect.unit (s := S2x2x512) off size inb).toLoadRect hl) k) Q) :=
  have hS : (commM.access (Rect.unit (s := S2x2x512) off size inb)).set ⊆ ownM.view.set := access_own h Finset.univ
  wp_load_rect (defs := defs₀ (F := F)) (Q := Q) (k := k) (hl := hl) (q := fullShare) (f := f) 𝒱₀ (c : Thread nD τ) none Set.univ (m := commM)
    (r := Rect.unit (s := S2x2x512) off size inb) (S := ownM.view.set) hS

/-- a store within it, -/
theorem wp_store_own {α : Type} {Q : α → sProp 𝕄} (c : Dev nD) (f : Vec F S2x2x512 .f32) {off size : Fin 3 → ℕ} {inb} (h : off 0 + size 0 = 1)
    {w : (Rect.unit (s := S2x2x512) off size inb).shape.Idx → Elt F .f32}
    {hx : (commM.access (Rect.unit (s := S2x2x512) off size inb)).Stores Finset.univ}
    {hm : (Finset.univ : Finset (Rect.unit (s := S2x2x512) off size inb).shape.Idx) = Finset.univ ∨ ∀ a, (Rect.unit (s := S2x2x512) off size inb).stride a = 1}
    {k : PUnit → Prog (TpuEff nD τ sig (Elt F) Λ₀ .tc) α} :
    (ownPts c f : sProp 𝕄)
      ⊢ iprop((ownPts c ((commM.access (Rect.unit (s := S2x2x512) off size inb)).write (Elt F) f w Finset.univ)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.store commM (Rect.unit (s := S2x2x512) off size inb) w Finset.univ hx hm) k) Q) :=
  have hS : (commM.access (Rect.unit (s := S2x2x512) off size inb)).setOn Finset.univ ⊆ ownM.view.set := access_own h Finset.univ
  wp_store (defs := defs₀ (F := F)) (Q := Q) (k := k) (hx := hx) (hm := hm) (w := w) (f := f) 𝒱₀ (c : Thread nD τ) none Set.univ (m := commM)
    (r := Rect.unit (s := S2x2x512) off size inb) (Mk := Finset.univ) (S := ownM.view.set) hS

/-- and a load of the landing slot. -/
theorem wp_load_land {α : Type} {Q : α → sProp 𝕄} (c : Dev nD) (f : Vec F S2x2x512 .f32) {hl : commM.view.LoadsAt landR.toLoadRect}
    {k : (landR.shape.Idx → Elt F .f32) → Prog (TpuEff nD τ sig (Elt F) Λ₀ .tc) α} :
    (landPts c f : sProp 𝕄)
      ⊢ iprop((landPts c f -∗ wp frame (wpE (defs₀ (F := F)) 𝒱₀ (c : Thread nD τ) none) Set.univ (k ((commM.access landR).read (Elt F) f)) Q)
          -∗ wp frame (wpE (defs₀ (F := F)) 𝒱₀ (c : Thread nD τ) none) Set.univ (.op (.load commM landR.toLoadRect hl) k) Q) :=
  have hS : (commM.access landR).set ⊆ landM.view.set := access_land Finset.univ
  wp_load_rect (defs := defs₀ (F := F)) (Q := Q) (k := k) (hl := hl) (q := fullShare) (f := f) 𝒱₀ (c : Thread nD τ) none Set.univ (m := commM)
    (r := landR) (S := landM.view.set) hS

/-- The copy of a device's partial sums into its partner's landing slot, addressed to `n`, the partner. -/
theorem wp_send_sums (K : Dev nD × Fin 3 → ℕ) (c n : Dev nD) (hn : n = peer c)
    {hsc : (landM : Memref sig (Dev.tc n : Thread nD τ).2.kind .vmem S2x512 .f32).view.ref.isScScratch = false}
    {hsrc : (ownM : Memref sig .tc .vmem S2x512 .f32).view.WordExact} {hdst : (landM : Memref sig .tc .vmem S2x512 .f32).view.WordExact}
    {hsem : DmaTarget.Typed .vmem (.dma recvS) (.remote (Dev.tc n : Thread nD τ) (landM : Memref sig .tc .vmem S2x512 .f32) (.dma sendS) hsc)}
    {α : Type} {Q : α → sProp 𝕄} {k : PUnit → Prog (TpuEff nD τ sig (Elt F) Λ₀ .tc) α} (fn : Vec F S2x2x512 .f32) (W : Waits sig Unit) :
    iprop(cellInv ER (sched m) (K (c, 1)) (sendCell c) ∗ cellInv ER (sched m) (K (peer c, 2)) (recvCell (peer c))
        ∗ ownPts c (sums m c) ∗ landPts (peer c) fn ∗ owes (c : Thread nD τ) (owedCopy c) W
        ∗ dutyTok ER (sendCell c) 0 () ∗ reached ER (sendCell c) 0 ∗ dutyTok ER (recvCell (peer c)) 0 () ∗ reached ER (recvCell (peer c)) 0)
      ⊢ iprop(((cred (tallyAt (sendCell c) () credit) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownM (.remote (Dev.tc n : Thread nD τ) landM (.dma sendS) hsc) (.dma recvS) hsrc hdst hsem) k) Q) := by
  subst hn
  have hpay : landPts (peer c) (landM.view.write (Elt F) fn (ownM.view.read (Elt F) (sums m c)) Finset.univ)
      ⊢ (sched m).payload (recvCell (peer c)) 0 () := by rw [payload_recv, landed]; unfold recvPay; rw [peer_peer]
  have hback : ownPts c (sums m c) ⊢ (sched m).payload (sendCell c) 0 () := by rw [payload_send]; unfold sendPay; exact BI.Entails.refl _
  unfold ownPts landPts at *
  have hN : (landM : Memref sig .tc .vmem S2x512 .f32).view.amount (.dma recvS) = credit := rfl
  have hO : owedCopy c = 0 + tallyAt (recvCell (peer c)) () credit := (zero_add _).symm
  have h1 := duty_mem m c 1
  have h2 := duty_mem m (peer c) 2
  have h3 := amount_dma m c sendS
  have h4 := amount_dma m (peer c) recvS
  have hr : τ.routes (c : Thread nD τ) (peer c : Thread nD τ) = true := by routes
  exact Rounds.wp_send_pointsTo (defs := defs₀ (F := F)) (Q := Q) (k := k) (hsc := hsc) (hsrc := hsrc) (hdst := hdst) (hsem := hsem) 𝒱₀ ER (sched m) (c : Thread nD τ) none (κ₁ := K (c, 1)) (κ₂ := K (peer c, 2)) (src := ownM) (dst := landM) (c' := (peer c : Thread nD τ))
    (r₁ := 0) (r₂ := 0) (d₁ := ()) (d₂ := ()) (fd := fn) h1 h2
    () () credit hN h3 h4 0 hO (W := W) hback hpay (Es := Set.univ) (hr := hr)

/-- What the body leaves. -/
def bodyPost (c : Dev nD) : sProp 𝕄 :=
  iprop(scratch c ∗ locals c ∗ (semVal (sendCell c) 0 ∗ semVal (recvCell c) 0 ∗ semVal (barCell c) 0)
    ∗ arrays c (m ((c : Thread nD τ).loc main_arg0)) (m ((c : Thread nD τ).loc main_arg1)) (outAt m c) ∗ ∃ W, owes (c : Thread nD τ) 0 W)

set_option sl_exec.dmaWindow true in
set_option maxHeartbeats 4000000 in
/-- One device's whole kernel: from its ghost state, its arrays, its scratch and the credit its partner owes it, the body runs
without fault, waits only where waiting is safe, and ends with the sum of both devices' partial sums in its result. -/
theorem sound_body (K : Dev nD × Fin 3 → ℕ) (c : Dev nD) (W : Waits sig Unit) (o : Vec F S2x512 .f32) (Q : PUnit → sProp 𝕄) :
    iprop(ghost m K c ∗ locals c ∗ arrays c (m ((c : Thread nD τ).loc main_arg0)) (m ((c : Thread nD τ).loc main_arg1)) o ∗ scratch c
        ∗ cred (tallyAt (barCell c) () 1) ∗ cred (tallyAt (recvCell c) () credit) ∗ levAts L lv ∗ owes (c : Thread nD τ) (owed0 c) W
        ∗ (bodyPost m c -∗ Q ⟨⟩))
      ⊢ wp frame (wpE (defs₀ (F := F)) 𝒱₀ c none) Set.univ (bodyAt0 (F := F) t0_0) Q := by
  unfold bodyAt0
  simp only [cc0_body_eq_skeleton]; unfold cc0_body_skel
  simp only [k0_part1_eq_skeleton]; unfold k0_part1_skel
  simp only [semSignalWord, Prog.lift, Prog.bind_op, Prog.bind_ret, Prog.pure_eq_ret, wp_deviceId, signal_dev]
  unfold ghost invs locals arrays scratch
  iintro ⟨⟨⟨#HIbar, #HIsnd, #HIrcv, #HIbarP, #HIrcvP⟩, ⟨HaB, HaS, HaR⟩, ⟨#HrBP, #HrRP, #HrS, #HrR⟩, HtB, HtR, HtS⟩, ⟨Hs0, Hs1, Hs2, Hs3, Hs6⟩, ⟨Hx, Hdy, Hout⟩, ⟨⟨%fx, HX⟩, ⟨%fy, HY⟩, ⟨%fc, HC⟩⟩, HcB, HcR, #Hlev, HO, Hk⟩
  ihave Hsl := (comm_split c fc) $$ HC
  icases Hsl with ⟨Hown, Hland⟩
  unfold owed0
  iapply (Rounds.wp_signal 𝒱₀ ER (sched m) (c : Thread nD τ) none (dst := (peer c : Thread nD τ)) (κ := K (peer c, 0))
      (d := ()) (duty_mem m (peer c) 0) ((amount_bar m (peer c)).trans (by decide)) () (owedCopy c) rfl) $$ [HO HtB Hland]
  · isplitr; · iexact HIbarP
    isplitl [HO]; · iexact HO
    isplitl [HtB]; · iexact HtB
    isplitl [Hland]
    · rw [payload_bar]; unfold barPay; rw [peer_peer]
      isplitl [Hland]; · iexists fc; iexact Hland
      iexact HrR
    · iexact HrBP
  iintro HO
  have h0 := mayWait_local (F := F) c 0 (by decide)
  have h1 := mayWait_local (F := F) c 1 (by decide)
  have h2 := mayWait_local (F := F) c 2 (by decide)
  have h3 := mayWait_local (F := F) c 3 (by decide)
  sl_exec
  iapply (wp_load_own c fc rfl) $$ Hown; iintro Hown
  iapply (wp_store_own c fc rfl) $$ Hown; iintro Hown
  iapply (wp_load_own c _ rfl) $$ Hown; iintro Hown
  iapply (wp_store_own c _ rfl) $$ Hown; iintro Hown
  have e43 : sound_body.sl.v43 m c = xTop m c := readCov_top _ _ _ _
  have e44 : sound_body.sl.v44 m c = dyTop m c := readCov_top _ _ _ _
  have e79 : sound_body.sl.v79 m c = xBot m c := readCov_last _ _ _ _
  have e80 : sound_body.sl.v80 m c = dyBot m c := readCov_last _ _ _ _
  have e2 : sound_body.sl.r_2 m c = k0_pay6 k0_pay2 (xTop m c) (dyTop m c) (k0_pay4 (xTop m c)) (k0_pay5 (xTop m c)) := by
    rw [← e43, ← e44]; rfl
  have e3 : sound_body.sl.r_3 m c = k0_pay7 k0_pay3 (dyTop m c) := by rw [← e44]; rfl
  have e4 : sound_body.sl.r_4 m c = k0_pay8 (xBot m c) := by rw [← e79]; rfl
  have e5 : sound_body.sl.r_5 m c = k0_pay9 (xBot m c) := by rw [← e79]; rfl
  have e6 : sound_body.sl.r_6 m c = k0_pay10 (xBot m c) := by rw [← e79]; rfl
  rw [e79, e80, e2, e3, e4, e5, e6]
  have hst := stored m c fc
  unfold gammaSum betaSum at hst
  ihave Hown := (Entails.of_eq hst) $$ Hown
  -- its own barrier: the partner's landing slot comes with the unit
  unfold semWaitWord
  iapply (Rounds.wp_wait_rest_token 𝒱₀ ER (sched m) (c : Thread nD τ) none (κ := K (c, 0))
      (wpE_semWait_eq 𝒱₀ (c : Thread nD τ) none Set.univ) (Set.mem_univ _) () (O := owedCopy c) (R := 0) (m := 0) (T := ∅)
      (by rw [expect_bar]; decide)) $$ [HcB HO HaB]
  · isplitr; · iexact HIbar
    isplitl [HcB]; · iexact HcB
    isplitl [HO]; · iexact HO
    isplitr; · iapply (mayWait_bar c); iexact Hlev
    iexact HaB
  iintro ⟨HO, HaB, -, Hpay⟩
  ihave Hp := (Entails.of_eq ((rest_kcell m c 0).trans (payload_bar m c))) $$ Hpay
  unfold barPay
  icases Hp with ⟨⟨%fn, HlandP⟩, -⟩
  iapply (wp_send_sums m K c _ (copy_dev c) fn _) $$ [Hown HlandP HO HtS HtR]
  · isplitr; · iexact HIsnd
    isplitr; · iexact HIrcvP
    isplitl [Hown]; · iexact Hown
    isplitl [HlandP]; · iexact HlandP
    isplitl [HO]; · iexact HO
    isplitl [HtS]; · iexact HtS
    isplitr; · iexact HrS
    isplitl [HtR]; · iexact HtR
    iexact HrRP
  iintro ⟨HcS, HO⟩
  iapply (wp_done c)
  -- the departure: its own slot back
  iapply (Rounds.wp_wait_rest_token 𝒱₀ ER (sched m) (c : Thread nD τ) none (κ := K (c, 1))
      (wpE_waitDma2_eq 𝒱₀ (c : Thread nD τ) none Set.univ) (Set.mem_univ _) () (O := 0) (R := 0) (m := 0) (T := ∅)
      (by rw [Nat.zero_add, expect_send])) $$ [HcS HO HaS]
  · isplitr; · iexact HIsnd
    isplitl [HcS]; · iexact HcS
    isplitl [HO]; · iexact HO
    isplitr; · rw [MayWait_zero]; iempintro
    iexact HaS
  iintro ⟨HO, HaS, -, Hpay⟩
  ihave Hown := (Entails.of_eq ((rest_kcell m c 1).trans (payload_send m c))) $$ Hpay
  -- the arrival: the landing slot, holding the partner's partial sums
  iapply (Rounds.wp_wait_rest_token 𝒱₀ ER (sched m) (c : Thread nD τ) none (κ := K (c, 2))
      (wpE_waitDma2_eq 𝒱₀ (c : Thread nD τ) none Set.univ) (Set.mem_univ _) () (O := 0) (R := 0) (m := 0) (T := ∅)
      (by rw [Nat.zero_add, expect_recv])) $$ [HcR HO HaR]
  · isplitr; · iexact HIrcv
    isplitl [HcR]; · iexact HcR
    isplitl [HO]; · iexact HO
    isplitr; · rw [MayWait_zero]; iempintro
    iexact HaR
  iintro ⟨HO, HaR, -, Hpay⟩
  ihave Hland := (Entails.of_eq ((rest_kcell m c 2).trans (payload_recv m c))) $$ Hpay
  unfold sendPay recvPay
  -- the three cells close: their counters at zero are the device's again
  imod (Rounds.cell_close ER (sched m) (Set.mem_univ (K (c, 1))) (fun h => h) (R := 0 + 1) (duties_later m (sendCell c))) $$ [HaS] with HzS
  · isplitr; · iexact HIsnd
    iexact HaS
  imod (Rounds.cell_close ER (sched m) (Set.mem_univ (K (c, 2))) (fun h => h) (R := 0 + 1) (duties_later m (recvCell c))) $$ [HaR] with HzR
  · isplitr; · iexact HIrcv
    iexact HaR
  imod (Rounds.cell_close ER (sched m) (Set.mem_univ (K (c, 0))) (fun h => h) (R := 0 + 1) (duties_later m (barCell c))) $$ [HaB] with HzB
  · isplitr; · iexact HIbar
    iexact HaB
  -- both slots read, their sum stored and copied out
  iapply (wp_load_own c _ rfl) $$ Hown; iintro Hown
  iapply (wp_load_land c _) $$ Hland; iintro Hland
  iapply (wp_load_own c _ rfl) $$ Hown; iintro Hown
  iapply (wp_store_own c _ rfl) $$ Hown; iintro Hown
  ihave Hown := (Entails.of_eq (stored_total m c (sums m c))) $$ Hown
  unfold ownPts
  sl_exec
  have hout : outM.view.write (Elt F) o (sound_body.sl.dma0_4 m c) Finset.univ = outAt m c := copied_out m c o _ (read_total m c)
  ihave Hout := (Entails.of_eq (congrArg (fun w => (outM.view.loc (c : Thread nD τ) ↦{fullShare} w : sProp 𝕄)) hout)) $$ Hout
  ihave HC := (comm_join c (total m c) (sums m (peer c))) $$ [Hown Hland]
  · isplitl [Hown]; · unfold ownPts; iexact Hown
    iexact Hland
  rw [wp_ret]; imodintro
  iapply Hk
  unfold bodyPost scratch locals arrays
  isplitl [HX HY HC]
  · isplitl [HX]; · iexists _; iexact HX
    isplitl [HY]; · iexists _; iexact HY
    iexact HC
  isplitl [Hs0 Hs1 Hs2 Hs3 Hs6]
  · isplitl [Hs0]; · iexact Hs0
    isplitl [Hs1]; · iexact Hs1
    isplitl [Hs2]; · iexact Hs2
    isplitl [Hs3]; · iexact Hs3
    iexact Hs6
  isplitl [HzS HzR HzB]
  · isplitl [HzS]; · iexact HzS
    isplitl [HzR] <;> iassumption
  isplitl [Hx Hdy Hout]
  · isplitl [Hx]; · iexact Hx
    isplitl [Hdy] <;> iassumption
  iexists _
  iexact HO

end Cert.Exchange

end
-- ==== Proof.Launch.lean ====
/-
  The whole machine: how the launch's semaphores and ghost tokens are dealt to the sixteen devices, what each device
  starts and ends with, and the run of the sixteen kernels together.
-/
module

public import proofs.«01_k».proof.Proof.Body
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds before and after its kernel -/

/-- Before: the exchange's ghost state, its local copies' semaphores, its arrays as launched, the credit the partner owes
    its cells, and the order of waits. -/
def start (c : Dev nD) : sProp 𝕄 :=
  iprop((∃ K, ghost m K c) ∗ locals c
    ∗ arrays c (m ((c : Thread nD τ).loc main_arg0)) (m ((c : Thread nD τ).loc main_arg1)) (m ((c : Thread nD τ).loc main_v1))
    ∗ cred (tallyAt (barCell c) () 1) ∗ cred (tallyAt (recvCell c) () credit) ∗ levAts L lv)

/-- The arrays once the result is written. -/
def arraysDone (c : Dev nD) : sProp 𝕄 :=
  arrays c (m ((c : Thread nD τ).loc main_arg0)) (m ((c : Thread nD τ).loc main_arg1)) (outAt m c)

/-- After: the scratch at some contents, every semaphore at zero, the result written. -/
def finish (c : Dev nD) : sProp 𝕄 :=
  iprop(scratch c ∗ locals c ∗ (semVal (sendCell c) 0 ∗ semVal (recvCell c) 0 ∗ semVal (barCell c) 0) ∗ arraysDone m c)

/-- The pipeline's data: one point, no window, the kernel moving its own blocks. -/
def dats (_ : Fin 1) (c : Dev nD) : Dat τ (Elt F) Unit ℕ UU ℕ cfg0 c where
  A w := m ((cfg0.win w).arr.view.loc (c : Thread nD τ))
  after w _ := (show Fin 0 from w).elim0
  Φ t := match t with
    | ⟨0, _⟩ => iprop(start m c ∗ scratch c)
    | ⟨_ + 1, _⟩ => finish m c
  q _ := fullShare
  owed t := match t with
    | ⟨0, _⟩ => owed0 c
    | ⟨_ + 1, _⟩ => 0

omit [FloatOps F] in
/-- The kernel has no window for the pipeline to move: a resource per window is none. -/
theorem no_windows (Φ : Fin cfg0.W → sProp 𝕄) : bigSep Finset.univ Φ = iprop(emp) := bigSep_univ_eq_bigSepL [] (by decide) (by decide) Φ

/-- The kernel's body takes every device from its start to its finish. -/
theorem body_obligation (c : Dev nD) : BodyObligation (dats (F := F) m 0 c) (defs₀ (F := F)) 𝒱₀ () Set.univ := fun t => by
  rw [fin_N0 t, no_windows, no_windows]
  show iprop((start m c ∗ scratch c) ∗ (∃ W, ⌜_⌝ ∗ owes (c : Thread nD τ) (owed0 c) W) ∗ emp)
    ⊢ wp frame (wpE (defs₀ (F := F)) 𝒱₀ c none) Set.univ (bodyAt0 (F := F) t0_0)
      (fun _ => iprop(finish m c ∗ (∃ W, ⌜_⌝ ∗ owes (c : Thread nD τ) 0 W) ∗ emp))
  unfold start
  iintro ⟨⟨⟨⟨%K, Hg⟩, Hloc, Harr, Hb, Hr, Hlev⟩, Hscr⟩, ⟨%W, -, HO⟩, -⟩
  iapply (sound_body m K c W (m ((c : Thread nD τ).loc main_v1)))
  isplitl [Hg]; · iexact Hg
  isplitl [Hloc]; · iexact Hloc
  isplitl [Harr]; · iexact Harr
  isplitl [Hscr]; · iexact Hscr
  isplitl [Hb]; · iexact Hb
  isplitl [Hr]; · iexact Hr
  isplitl [Hlev]; · iexact Hlev
  isplitl [HO]; · iexact HO
  unfold bodyPost finish arraysDone
  iintro ⟨Hscr, Hloc, Hsem, Harr, ⟨%W', HO⟩⟩
  isplitl [Hscr Hloc Hsem Harr]
  · isplitl [Hscr]; · iexact Hscr
    isplitl [Hloc]; · iexact Hloc
    isplitl [Hsem]; · iexact Hsem
    iexact Harr
  isplitl [HO]
  · iexists W'
    isplitr
    · ipureintro; exact fun _ _ => Or.inl trivial
    iexact HO
  iempintro

/-! ## The semaphores and tokens at launch -/

/-- The kernel's own seven semaphores: two a staged half of each operand, one each for departure, arrival and the result. -/
abbrev osem : Fin 7 → SemLoc sig := fun k => .dma k
/-- The seven are distinct and all the kernel has. -/
theorem ownSemFacts : Pipeline.OwnSemFacts cfg0.spec osem := by decide

/-- Every window is held whole, there being none. -/
theorem share_eq (c : Dev nD) (w : Fin cfg0.W) : (dats (F := F) m 0 c).share w = fullShare := (show Fin 0 from w).elim0

/-- The three kinds of cell are three semaphores. -/
theorem csem_injective : Function.Injective csem := by
  intro a b h
  fin_cases a <;> fin_cases b <;> first | rfl | exact absurd h (by decide)
/-- Distinct devices or kinds have distinct cells. -/
theorem kcell_injective : Function.Injective kcell := fun a b h =>
  Prod.ext (congrArg (fun g : GSem nD τ sig => g.1.1) h) (csem_injective (congrArg (fun g : GSem nD τ sig => g.2) h))

/-- The exchange's cells on the machine, three a device, -/
def cells : Finset (GSem nD τ sig) := Finset.univ.map ⟨kcell, kcell_injective⟩
/-- and each one's duty token. -/
def minted : Finset (GSem nD τ sig × ℕ × Unit) :=
  Finset.univ.map ⟨fun ck => (kcell ck, 0, ()), fun _ _ h => kcell_injective (congrArg Prod.fst h)⟩

/-- The ghost state at launch: the pipeline's tokens, the exchange's tokens, and the local copies' counters. -/
def u₀ : UU := (initOf (Pipeline.cells cfgs cellOf_inj) (Pipeline.launchToks cfgs cellOf_inj), (initOf cells minted, 1))

/-- The tokens of a device's own cells. -/
def toks (c : Dev nD) : sProp 𝕄 := iprop(dutyTok ER (barCell c) 0 () ∗ dutyTok ER (sendCell c) 0 () ∗ dutyTok ER (recvCell c) 0 ())

/-- What a device is dealt at launch. -/
def dealt (c : Dev nD) : sProp 𝕄 :=
  iprop((bigSep Finset.univ fun k : Fin 3 => roundState ER (sched m) (kcell (c, k)) 0)
    ∗ (bigSep Finset.univ fun k : Fin 3 => atPos ER (kcell (c, k)) 0 ∅ 0)
    ∗ (bigSep Finset.univ fun k : Fin 3 => reached ER (kcell (c, k)) 0) ∗ toks c)
/-- What it has once the invariants are shared. -/
def ready (c : Dev nD) : sProp 𝕄 := iprop((∃ K, ghost m K c) ∗ locals c)

omit [FloatOps F] in
/-- A resource for each of the three kinds, spelt out. -/
theorem three (Φ : Fin 3 → sProp 𝕄) : bigSep Finset.univ Φ = iprop(Φ 0 ∗ Φ 1 ∗ Φ 2) :=
  bigSep_univ_eq_bigSepL [0, 1, 2] (by decide) (by decide) Φ

omit [FloatOps F] in
/-- A resource per cell is one per device and kind. -/
theorem over_cells (Φ : GSem nD τ sig → sProp 𝕄) :
    bigSep cells Φ = bigSep Finset.univ fun c : Dev nD => bigSep Finset.univ fun k : Fin 3 => Φ (kcell (c, k)) := by
  unfold cells; rw [bigSep_map, bigSep_univ_prod]; rfl

omit [FloatOps F] in
/-- The duty tokens, sorted by device. -/
theorem over_minted :
    bigSep minted (fun x => (dutyTok ER x.1 x.2.1 x.2.2 : sProp 𝕄)) = bigSep Finset.univ fun c : Dev nD => toks c := by
  unfold minted
  rw [bigSep_map, bigSep_univ_prod]
  exact bigSep_congr fun c _ => by rw [three]; rfl

/-- The exchange's launch element gives every device its deal. -/
theorem fund : BI.own (ER (initOf cells minted)) ⊢ (|==> bigSep Finset.univ (dealt m) : sProp 𝕄) := by
  iintro H
  imod (Rounds.fund ER (sched m) cells minted) $$ H with ⟨Hs, Hr, Ha, Ht⟩
  imodintro
  ihave Hs := (Entails.of_eq (over_cells fun g => roundState ER (sched m) g 0)) $$ Hs
  ihave Ha := (Entails.of_eq (over_cells fun g => atPos ER g 0 ∅ 0)) $$ Ha
  ihave Hr := (Entails.of_eq (over_cells fun g => reached ER g 0)) $$ Hr
  ihave Ht := (Entails.of_eq over_minted) $$ Ht
  unfold dealt
  simp only [bigSep_sep']
  isplitl [Hs]; · iexact Hs
  isplitl [Ha]; · iexact Ha
  isplitl [Hr]; · iexact Hr
  iexact Ht

omit [FloatOps F] in
/-- The launch element splits into the pipeline's part and the exchange's. -/
theorem split_launch :
    (ownU u₀ : sProp 𝕄) ⊢ iprop(BI.own (EP (initOf (Pipeline.cells cfgs cellOf_inj) (Pipeline.launchToks cfgs cellOf_inj))) ∗ BI.own (ER (initOf cells minted))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf cells minted, (1 : Counters)))))

omit [FloatOps F] in
/-- The kernel's own semaphores at zero, spelt out: two per operand, departure, arrival, result. -/
theorem ownSems0_eq (c : Dev nD) : (Pipeline.ownSems0 (Ix := Unit) (Name := ℕ) (U := UU) (Lvl := ℕ) (Val := Elt F) (τ := τ) osem c : sProp 𝕄)
    = iprop(semVal (locCell c 0) 0 ∗ semVal (locCell c 1) 0 ∗ semVal (locCell c 2) 0 ∗ semVal (locCell c 3) 0 ∗ semVal (sendCell c) 0
        ∗ semVal (recvCell c) 0 ∗ semVal (locCell c 6) 0) := by
  rw [Pipeline.ownSems0_eq_of_list c osem [0, 1, 2, 3, 4, 5, 6] (by decide) (by decide)]; rfl
omit [FloatOps F] in
/-- The one semaphore that outlives the kernel is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- One device's step: its three exchange cells become invariants, its local copies' semaphores stay its own. -/
theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (sched m) κ (kcell (c, k))))
          ∗ (bigSep Finset.univ fun k : Fin 3 => reached ER (kcell (c, k)) 0)
          ∗ (bigSep Finset.univ fun k : Fin 3 => atPos ER (kcell (c, k)) 0 ∅ 0) ∗ toks c ∗ locals c) := by
  have alloc : iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  rw [ownSems0_eq, unscopedSems0_eq]
  unfold dealt locals
  iintro ⟨⟨H0, H1, H2, H3, HS, HR, H6⟩, HB, Hst, Hat, Hre, Htok⟩
  imod alloc $$ [HB HS HR Hst] with Hinv
  · isplitr [Hst]
    · rw [three]
      isplitl [HB]; · iexact HB
      isplitl [HS]; · iexact HS
      iexact HR
    iexact Hst
  imodintro
  isplitl [Hinv]; · iexact Hinv
  isplitl [Hre]; · iexact Hre
  isplitl [Hat]; · iexact Hat
  isplitl [Htok]; · iexact Htok
  isplitl [H0]; · iexact H0
  isplitl [H1]; · iexact H1
  isplitl [H2]; · iexact H2
  isplitl [H3]; · iexact H3
  iexact H6

/-- Every cell's invariant, and that every cell is in its round. -/
def records (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

/-- What is recorded of the cells may be used more than once. -/
instance records_persistent (K : Dev nD × Fin 3 → ℕ) : BI.Persistent (records (F := F) m K) := by unfold records; infer_instance

/-- The tokens a device pays with: its partner's barrier and receive duties, its own send duty. -/
def payToks (c : Dev nD) : sProp 𝕄 := iprop(dutyTok ER (barCell (peer c)) 0 () ∗ dutyTok ER (recvCell (peer c)) 0 () ∗ dutyTok ER (sendCell c) 0 ())
/-- What only that device has. -/
def linear (c : Dev nD) : sProp 𝕄 := iprop((bigSep Finset.univ fun k : Fin 3 => atPos ER (kcell (c, k)) 0 ∅ 0) ∗ payToks c ∗ locals c)

/-- With the records, that is all a device needs. -/
theorem ready_intro (K : Dev nD × Fin 3 → ℕ) (c : Dev nD) : iprop(records m K ∗ linear c) ⊢ ready m c := by
  have inv (ck : Dev nD × Fin 3) : (bigSep Finset.univ fun ck : Dev nD × Fin 3 => (cellInv ER (sched m) (K ck) (kcell ck) : sProp 𝕄))
      ⊢ cellInv ER (sched m) (K ck) (kcell ck) := bigSep_elim (Finset.mem_univ ck)
  have mark (ck : Dev nD × Fin 3) : (bigSep Finset.univ fun ck : Dev nD × Fin 3 => (reached ER (kcell ck) 0 : sProp 𝕄)) ⊢ reached ER (kcell ck) 0 :=
    bigSep_elim (Finset.mem_univ ck)
  unfold records linear ready ghost invs
  rw [three]
  iintro ⟨⟨#HI, #HR⟩, Hat, Hpay, Hloc⟩
  isplitr [Hloc]
  · iexists K
    isplitr
    · isplitr; · iapply (inv (c, 0)); iexact HI
      isplitr; · iapply (inv (c, 1)); iexact HI
      isplitr; · iapply (inv (c, 2)); iexact HI
      isplitr; · iapply (inv (peer c, 0)); iexact HI
      iapply (inv (peer c, 2)); iexact HI
    isplitl [Hat]; · iexact Hat
    isplitr
    · isplitr; · iapply (mark (peer c, 0)); iexact HR
      isplitr; · iapply (mark (peer c, 2)); iexact HR
      isplitr; · iapply (mark (c, 1)); iexact HR
      iapply (mark (c, 2)); iexact HR
    unfold payToks
    iexact Hpay
  iexact Hloc

omit [FloatOps F] in
/-- The partners trade their barrier and receive tokens. -/
theorem trade : (bigSep Finset.univ fun c : Dev nD => (toks c : sProp 𝕄)) ⊢ bigSep Finset.univ fun c : Dev nD => payToks c := by
  have htrade (Φ : Dev nD → sProp 𝕄) : bigSep Finset.univ Φ = bigSep Finset.univ fun c => Φ (peer c) := bigSep_univ_equiv swap Φ
  unfold toks payToks
  simp only [bigSep_sep']
  rw [htrade fun c => dutyTok ER (barCell c) 0 (), htrade fun c => dutyTok ER (recvCell c) 0 ()]
  iintro ⟨HB, HS, HR⟩
  isplitl [HB]; · iexact HB
  isplitl [HR]; · iexact HR
  iexact HS

/-- Every device's share of the invariants and of the traded tokens. -/
theorem regroup :
    (bigSep Finset.univ fun c : Dev nD => iprop((bigSep Finset.univ fun k => iprop(∃ κ : ℕ, cellInv ER (sched m) κ (kcell (c, k))))
          ∗ (bigSep Finset.univ fun k : Fin 3 => reached ER (kcell (c, k)) 0)
          ∗ (bigSep Finset.univ fun k : Fin 3 => atPos ER (kcell (c, k)) 0 ∅ 0) ∗ toks c ∗ locals c) : sProp 𝕄)
      ⊢ bigSep Finset.univ (ready m) := by
  rw [bigSep_sep', bigSep_sep', bigSep_sep', bigSep_sep', ← bigSep_univ_prod (fun ck : Dev nD × Fin 3 => iprop(∃ κ : ℕ, cellInv ER (sched m) κ (kcell ck))),
    ← bigSep_univ_prod (fun ck : Dev nD × Fin 3 => (reached ER (kcell ck) 0 : sProp 𝕄))]
  iintro ⟨HI, #HR, Hat, Htok, Hloc⟩
  ihave HK := (BI.bigSep_exists_pi Finset.univ (fun (ck : Dev nD × Fin 3) (κ : ℕ) => (cellInv ER (sched m) κ (kcell ck) : sProp 𝕄))) $$ HI
  icases HK with ⟨%K, #HI⟩
  ihave Hpay := (trade (F := F)) $$ Htok
  have each : iprop(records m K ∗ bigSep Finset.univ fun c : Dev nD => (linear c : sProp 𝕄)) ⊢ bigSep Finset.univ (ready m) :=
    (sep_mono_left (BI.bigSep_of_persistent Finset.univ (records m K))).trans
      (by rw [← bigSep_sep']; exact bigSep_mono fun c _ => ready_intro m K c)
  iapply each
  isplitr
  · unfold records
    isplitl
    · iexact HI
    iexact HR
  unfold linear
  rw [bigSep_sep', bigSep_sep']
  isplitl [Hat]; · iexact Hat
  isplitl [Hpay]; · iexact Hpay
  iexact Hloc

/-- The step all devices take together at launch. -/
theorem glob :
    (bigSep Finset.univ fun c => iprop(Pipeline.ownSems0 (Ix := Unit) (Name := ℕ) (U := UU) (Lvl := ℕ) (Val := Elt F) (τ := τ) osem c ∗ unscopedSems0 c ∗ dealt m c) : sProp 𝕄)
      ⊢ |={Set.univ}=> bigSep Finset.univ (ready m) :=
  ((bigSep_mono fun c _ => core_alloc m c).trans (bigSep_fupd _ _)).trans (BI.fupd_mono (regroup m))

/-! ## The credit a device starts with -/

/-- A cell belongs to one device. -/
theorem cell_inj {a b : Dev nD} {s : SemLoc sig} (h : (((a : Thread nD τ), s) : GSem nD τ sig) = ((b : Thread nD τ), s)) : a = b :=
  congrArg (fun g : GSem nD τ sig => g.1.1) h

/-- A debt to the partner's cell is a debt to `c`'s cell exactly from `c`'s partner. -/
theorem tally_peer (d c : Dev nD) (s : SemLoc sig) (n : ℕ) :
    (tallyAt ((peer d : Thread nD τ), s) () n : CellTallies nD τ sig Unit) ((c : Thread nD τ), s) () = if d = peer c then n else 0 := by
  rw [tallyAt_apply]
  by_cases h : d = peer c
  · subst h; rw [peer_peer, if_pos ⟨rfl, rfl⟩, if_pos rfl]
  · rw [if_neg fun h' => h (by rw [cell_inj h'.1, peer_peer]), if_neg h]

/-- Device `d` owes device `c`'s barrier one signal exactly if it is `c`'s partner. -/
theorem owed_bar (d c : Dev nD) : owed0 d (barCell c) () = if d = peer c then 1 else 0 := by
  unfold owed0 owedCopy
  rw [Pi.add_apply, Finsupp.add_apply, tally_peer d c (.reg barS), tallyAt_ne_cell (fun h => dma_ne_reg recvS barS (congrArg Prod.snd h).symm),
    Finsupp.zero_apply, Nat.zero_add]
/-- Device `d` owes device `c`'s receive cell one slot's arrival exactly if it is `c`'s partner. -/
theorem owed_recv (d c : Dev nD) : owed0 d (recvCell c) () = if d = peer c then credit else 0 := by
  unfold owed0 owedCopy
  rw [Pi.add_apply, Finsupp.add_apply, tally_peer, tallyAt_ne_cell (fun h => dma_ne_reg recvS barS (congrArg Prod.snd h)), Finsupp.zero_apply,
    Nat.add_zero]

/-- A cell's launch credit is what the partner owes it. -/
theorem launch_cell (c : Dev nD) (s : SemLoc sig) (n : ℕ) (h : ∀ d, owed0 d ((c : Thread nD τ), s) () = if d = peer c then n else 0) :
    tallyOn ((c : Thread nD τ), s) (launchCredit (Pipeline.owing owed0) 0 ((c : Thread nD τ), s)) = (tallyAt ((c : Thread nD τ), s) () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ (peer c) fun _ => n,
    if_pos (Finset.mem_univ _)]

omit [FloatOps F] in
/-- So a device starts with credit for one signal and one arrival. -/
theorem creds (c : Dev nD) :
    (Pipeline.launchCred owed0 c : sProp 𝕄) ⊢ iprop(cred (tallyAt (barCell c) () 1) ∗ cred (tallyAt (recvCell c) () credit)) := by
  unfold Pipeline.launchCred
  rw [bigSep_univ_at _ (SemLoc.reg barS), launch_cell c _ 1 fun d => owed_bar d c]
  refine sep_mono_right ?_
  rw [← launch_cell c _ credit fun d => owed_recv d c]
  exact bigSep_elim (Finset.mem_erase.mpr ⟨dma_ne_reg recvS barS, Finset.mem_univ _⟩)

/-! ## Into the kernel and out of it -/

/-- The gain's vector, which no kernel touches. -/
def gainPts (c : Dev nD) : sProp 𝕄 := ((c : Thread nD τ).loc main_arg2) ↦{fullShare} (m ((c : Thread nD τ).loc main_arg2))

/-- What the launch leaves a device makes up its start, the gain set aside. -/
theorem start_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ ready m c)
      ⊢ |={Set.univ}=> iprop(start m c ∗ gainPts m c) := by
  rw [Pipeline.unscopedRestP_none, unscopedRest0_eq]
  unfold ready start arrays gainPts
  iintro ⟨⟨Hx, Hdy, Hg, Hv⟩, Hlev, Hcr, -, HK, Hloc⟩
  ihave Hc := (creds (F := F) c) $$ Hcr
  icases Hc with ⟨HB, HR⟩
  imodintro
  isplitr [Hg]
  · isplitl [HK]; · iexact HK
    isplitl [Hloc]; · iexact Hloc
    isplitl [Hx Hdy Hv]
    · isplitl [Hx]; · iexact Hx
      isplitl [Hdy]; · iexact Hdy
      iexact Hv
    isplitl [HB]; · iexact HB
    isplitl [HR]; · iexact HR
    iexact Hlev
  iexact Hg

omit [FloatOps F] in
/-- The launch's scoped buffers are the kernel's scratch. -/
theorem scratch_eq (c : Dev nD) : (Pipeline.scopedRest (Ix := Unit) (Name := ℕ) (U := UU) (Lvl := ℕ) (Val := Elt F) cfg0.spec c : sProp 𝕄) = scratch c := by
  rw [scopedRest0_eq]; rfl

/-- A start and the scratch are what the kernel takes in. -/
theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scratch_eq]
  iintro ⟨Hs, -, Hr⟩
  isplitl [Hs] <;> iassumption

/-- What the kernel leaves is the barrier at zero, the arrays done, its own semaphores at zero and the scratch. -/
theorem phi_out (c : Dev nD) :
    (dats m 0 c).Φ (Fin.last cfg0.N) ⊢ iprop((unscopedSems0 c ∗ arraysDone m c) ∗ Pipeline.ownSems0 osem c ∗ Pipeline.scopedRest cfg0.spec c) := by
  rw [show (dats m 0 c).Φ (Fin.last cfg0.N) = finish m c from rfl, scratch_eq, ownSems0_eq, unscopedSems0_eq]
  unfold finish locals
  iintro ⟨Hscr, ⟨H0, H1, H2, H3, H6⟩, ⟨HS, HR, HB⟩, Harr⟩
  isplitl [HB Harr]
  · isplitl [HB] <;> iassumption
  isplitr [Hscr]
  · isplitl [H0]; · iexact H0
    isplitl [H1]; · iexact H1
    isplitl [H2]; · iexact H2
    isplitl [H3]; · iexact H3
    isplitl [HS]; · iexact HS
    isplitl [HR]; · iexact HR
    iexact H6
  iexact Hscr

/-- No window means no wait of the pipeline to justify. -/
theorem waits (c : Dev nD) : (levAts L lv : sProp 𝕄) ⊢ Pipeline.cellsWaits cfgs (dats m) () 0 c :=
  Pipeline.cellsWaits_intro cfgs (dats m) () 0 c fun w s t => (show Fin 0 from w).elim0

/-! ## The run -/

/-- What the machine's memory holds on device `c` at the end: the result written, the operands as they were. -/
def Done (c : Dev nD) (s : MemSt nD τ sig (Elt F)) : Prop :=
  s.mem ((c : Thread nD τ).loc main_v1) = outAt m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

/-- A device's last holdings, read against the memory. -/
theorem read_out (c : Dev nD) (s' : Phys nD τ sig (Elt F)) :
    iprop((unscopedSems0 c ∗ arraysDone m c) ∗ gainPts m c ∗ SI s')
      ⊢ |={Set.univ}=> iprop(⌜Done m c s'.mem ∧ ∀ sm : SemLoc sig, sm.isScoped .tc = false → s'.mem.sem ((c : Thread nD τ), sm) = 0⌝ ∗ (SI s' : sProp 𝕄)) := by
  unfold arraysDone arrays gainPts
  iintro ⟨⟨Hu, Hx, Hdy, Hv⟩, Hg, HSI⟩
  icombine HSI Hx gives %h0
  icombine HSI Hdy gives %h1
  icombine HSI Hg gives %h2
  icombine HSI Hv gives %hv
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ hv, Buf.eq_of_forall_mem_univ h0, Buf.eq_of_forall_mem_univ h1, Buf.eq_of_forall_mem_univ h2⟩, hs⟩
  iexact HSI

/-- At the compiled mesh of sixteen devices, for any float values, from any memory whose counters are zero: every fair
    execution of the sixteen kernels ends, with each device's result the sum of its partial sums and its partner's,
    its operands unchanged and every semaphore counter at zero. -/
theorem run_main : θ_run defs (onTc (τ := τ) (main (F := F))) ⟨m, fun _ => 0, ρ⟩ (fun r => (∀ c, Done m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := owed0) (howed₀ := fun _ => rfl) (howedN := fun _ => rfl)
    (L := L) (lv := lv) (hL := L_of_ne) (hwaits := waits m)
    (G := dealt m) (G' := ready m) (u₀ := u₀)
    (hu₀ := by
      iintro Hu
      ihave H := (split_launch (F := F)) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => iprop(unscopedSems0 c ∗ arraysDone m c)) (Z := gainPts m)
    (hX := start_intro m ρ) (hin := phi_in m) (hout := phi_out m)
    (QY := fun c s => Done m c s ∧ ∀ sm : SemLoc sig, sm.isScoped .tc = false → s.sem ((c : Thread nD τ), sm) = 0)
    (hY := read_out m)
    (hQ := fun _ h hs => ⟨fun c => (h c).2.2.1, sem_eq_zero hs fun c => (h c).2.2.2⟩)

end Cert.Exchange

end
-- ==== Proof.RowMaths.lean ====
/-
  One row of the input, as mathematics. The kernel normalises a row from its sum and its sum of squares in one pass; the
  reference first centres the row and then averages the squares. For a row of finite entries both give the same
  normalised entries; that is all this module shows.
-/
module

public import Idealize.ShloMosaic.Lib.IdealHost
public import Idealize.ShloMosaic.PureOps.Ideal.Laws

@[expose] public section

noncomputable section

namespace Cert.RowMaths

open Idealize.ShloMosaic

/-- The bit pattern both programs divide a row's sums by is the row's length. -/
theorem ofBits_length : Ideal.ofBits .f32 0x44000000#32 = ((512 : ℝ) : EReal) := by
  simp [Ideal.ofBits, Ideal.ieee]
  rw [← EReal.coe_mul]
  norm_num

/-- The small constant both programs add to the variance is a positive real. -/
theorem ofBits_eps : ∃ e : ℝ, 0 < e ∧ Ideal.ofBits .f32 0x3727C5AC#32 = (e : EReal) := by
  simp [Ideal.ofBits, Ideal.ieee]
  exact ⟨10995116 * (2 ^ 40)⁻¹, by positivity, (EReal.coe_mul _ _).symm⟩

/-- A real over a nonzero real, in the extended reals' division. -/
theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- A finite sum of reals is the same sum among the extended reals. -/
theorem sum_coe (r : Fin 512 → ℝ) : ∑ k, (r k : EReal) = ((∑ k, r k : ℝ) : EReal) :=
  (map_sum (⟨⟨Real.toEReal, EReal.coe_zero⟩, EReal.coe_add⟩ : ℝ →+ EReal) r Finset.univ).symm

/-- The row's mean, as both programs compute it. -/
def mean (x : Fin 512 → EReal) : EReal := Ideal.div (∑ k, x k) (Ideal.ofBits .f32 0x44000000#32)

/-- The kernel's scale of a row: the reciprocal root of the mean square less the squared mean. -/
def onePass (x : Fin 512 → EReal) : EReal :=
  Ideal.rsqrt (Ideal.div (∑ k, x k * x k) (Ideal.ofBits .f32 0x44000000#32) - mean x * mean x
    + Ideal.ofBits .f32 0x3727C5AC#32)

/-- The reference's scale of a row: one over the root of the mean square of the centred row. -/
def twoPass (x : Fin 512 → EReal) : EReal :=
  Ideal.div 1 (Ideal.sqrt (Ideal.div (∑ k, (x k - mean x) * (x k - mean x)) (Ideal.ofBits .f32 0x44000000#32)
    + Ideal.ofBits .f32 0x3727C5AC#32))

/-- The mean square of a real row less its squared mean is the mean square of the centred row. -/
theorem variance_eq (r : Fin 512 → ℝ) :
    (∑ k, r k * r k) / 512 - (∑ k, r k) / 512 * ((∑ k, r k) / 512)
      = (∑ k, (r k - (∑ k, r k) / 512) * (r k - (∑ k, r k) / 512)) / 512 := by
  generalize hs : ∑ k, r k = s
  have e : ∀ k, (r k - s / 512) * (r k - s / 512) = r k * r k - 2 * (s / 512) * r k + s / 512 * (s / 512) := fun k => by ring
  simp only [e, Finset.sum_add_distrib, Finset.sum_sub_distrib, ← Finset.mul_sum, hs, Finset.sum_const, Finset.card_univ,
    Fintype.card_fin, nsmul_eq_mul]
  push_cast
  ring

/-- A row of finite entries is normalised alike by the kernel's formula and by the reference's. -/
theorem normalised_eq (x : Fin 512 → EReal) (hx : ∀ k, x k ≠ ⊤ ∧ x k ≠ ⊥) (j : Fin 512) :
    x j * onePass x - mean x * onePass x = (x j - mean x) * twoPass x := by
  obtain ⟨r, rfl⟩ : ∃ r : Fin 512 → ℝ, x = fun k => (r k : EReal) :=
    ⟨fun k => (x k).toReal, funext fun k => (EReal.coe_toReal (hx k).1 (hx k).2).symm⟩
  obtain ⟨e, he, hE⟩ := ofBits_eps
  have hm : mean (fun k => (r k : EReal)) = (((∑ k, r k) / 512 : ℝ) : EReal) := by
    rw [mean, sum_coe, ofBits_length, div_coe _ _ (by norm_num)]
  have hv : 0 ≤ (∑ k, (r k - (∑ k, r k) / 512) * (r k - (∑ k, r k) / 512)) / 512 :=
    div_nonneg (Finset.sum_nonneg fun k _ => mul_self_nonneg _) (by norm_num)
  have h1 : onePass (fun k => (r k : EReal))
      = (((Real.sqrt ((∑ k, (r k - (∑ k, r k) / 512) * (r k - (∑ k, r k) / 512)) / 512 + e))⁻¹ : ℝ) : EReal) := by
    rw [onePass, hm, ofBits_length, hE]
    simp only [← EReal.coe_mul]
    rw [sum_coe, div_coe _ _ (by norm_num), ← EReal.coe_sub, ← EReal.coe_add, variance_eq]
    exact (if_neg (by linarith)).trans (if_neg (by linarith))
  have h2 : twoPass (fun k => (r k : EReal))
      = (((Real.sqrt ((∑ k, (r k - (∑ k, r k) / 512) * (r k - (∑ k, r k) / 512)) / 512 + e))⁻¹ : ℝ) : EReal) := by
    rw [twoPass, hm, ofBits_length, hE]
    simp only [← EReal.coe_mul, ← EReal.coe_sub]
    rw [sum_coe, div_coe _ _ (by norm_num), ← EReal.coe_add]
    rw [show ∀ v : ℝ, Ideal.sqrt (v : EReal) = if v < 0 then ⊥ else (Real.sqrt v : EReal) from fun _ => rfl,
      if_neg (by linarith), ← EReal.coe_one, div_coe _ _ (Real.sqrt_pos.2 (by linarith)).ne', one_div]
  rw [h1, h2, hm]
  simp only [← EReal.coe_mul, ← EReal.coe_sub]
  rw [sub_mul]

end Cert.RowMaths

end
-- ==== Proof.KernelValue.lean ====
/-
  The kernel's result at exact arithmetic, read entry by entry: what device `c`'s two rows of partial sums are as sums over
  the rows of its own block of the input.
-/
module

public import proofs.«01_k».proof.Proof.Protocol
public import proofs.«01_k».proof.Proof.RowMaths
public import Idealize.ShloMosaic.Lib.Pointwise

@[expose] public section

noncomputable section

namespace Cert.Exchange

open Cert.KernelIdeal Cert.KernelIdeal.Gen Cert.RowMaths
open Idealize.ShloMosaic
open Idealize.ShloMosaic.TcCoe

/-- The first half's row means are the rows' means. -/
theorem pay4_apply (x : FVec Ideal S256x512 .f32) (r : Fin 256) :
    k0_pay4 (F := Ideal) x (ix2 r 0) = mean fun k => x (ix2 r k) := by
  pointwise [k0_pay4, mean]

/-- The first half's row scales are the one-pass scales of the rows. -/
theorem pay5_apply (x : FVec Ideal S256x512 .f32) (r : Fin 256) :
    k0_pay5 (F := Ideal) x (ix2 r 0) = onePass fun k => x (ix2 r k) := by
  pointwise [k0_pay5, k0_pay4, onePass, mean]

/-- The second half's row means are computed as the first half's. -/
theorem pay8_eq (x : FVec Ideal S256x512 .f32) : k0_pay8 (F := Ideal) x = k0_pay4 x := rfl

/-- The second half's row scales are computed as the first half's. -/
theorem pay9_eq (x : FVec Ideal S256x512 .f32) : k0_pay9 (F := Ideal) x = k0_pay5 x := rfl

/-- The summand of the gain's gradient at one row and column of a block, as the kernel normalises the row. -/
def term {n : ℕ} (x dy : FVec Ideal ⟨2, ![n, 512]⟩ .f32) (j : Fin 512) (r : Fin n) : EReal :=
  dy (ix2 r j) * (x (ix2 r j) * onePass (fun k => x (ix2 r k)) - mean (fun k => x (ix2 r k)) * onePass fun k => x (ix2 r k))

/-- The gain's partial sums: over the rows of the first half, then over the rows of the second. -/
theorem gamma_apply (x dy x' dy' : FVec Ideal S256x512 .f32) (j : Fin 512) :
    k0_pay11 (F := Ideal) (k0_pay6 k0_pay2 x dy (k0_pay4 x) (k0_pay5 x)) x' dy' (k0_pay8 x') (k0_pay9 x') (k0_pay10 x') (ix3 0 0 j)
      = ∑ r, term x dy j r + ∑ r, term x' dy' j r := by
  pointwise [k0_pay11, k0_pay10, k0_pay6, k0_pay2]
  simp only [pay8_eq, pay9_eq, pay4_apply, pay5_apply]
  rfl

/-- The offset's partial sums: over the rows of the first half, then over the rows of the second. -/
theorem beta_apply (dy dy' : FVec Ideal S256x512 .f32) (j : Fin 512) :
    k0_pay12 (F := Ideal) (k0_pay7 k0_pay3 dy) dy' (ix3 0 0 j) = ∑ r, dy (ix2 r j) + ∑ r, dy' (ix2 r j) := by
  pointwise [k0_pay12, k0_pay7, k0_pay3]

end Cert.Exchange

end
-- ==== Proof.ReferenceValue.lean ====
/-
  The reference's result at exact arithmetic, read entry by entry: two rows of sums over the whole array's rows.
-/
module

public import proofs.«01_k».proof.Proof.Gen.ReferenceIdeal.Run
public import proofs.«01_k».proof.Proof.RowMaths
public import Idealize.ShloMosaic.Lib.Pointwise

@[expose] public section

noncomputable section

namespace Cert.RefValue

open Cert.ReferenceIdeal Cert.ReferenceIdeal.Gen Cert.RowMaths
open Idealize.ShloMosaic
open Idealize.ShloMosaic.TcCoe Idealize.SL.Sem

variable (x dy : FVec Ideal S1024x512 .f32)

/-- The column of row means. -/
def meanCol : FVec Ideal S1024x1 .f32 :=
  Host.divf (broadcastInDim S1024x1 ![0] bcast_S1024_S1024x1_0 (Host.reduceAdd x (constant S_ .f32 0x00000000#32) reducesTo_S1024x512_S1024_d1 h_S_))
    (broadcastInDim S1024x1 ![] bcast_S_S1024x1 (constant S_ .f32 0x44000000#32))

/-- The centred array. -/
def centred : FVec Ideal S1024x512 .f32 := subf x (broadcastInDim S1024x512 ![0, 1] bcast_S1024x1_S1024x512_0_1 (meanCol x))

/-- The number of entries a variance is averaged over. -/
def count : FVec Ideal S_ .f32 := subf (constant S_ .f32 0x44000000#32) (sitofp .f32 (constantI S_ 32 0#32))

/-- The column of row variances, with the guard against an empty row. -/
def varCol : FVec Ideal S1024x1 .f32 :=
  select (broadcastInDim S1024x1 ![] bcast_S_S1024x1 (cmpf .ogt (count : FVec Ideal S_ .f32) (constant S_ .f32 0x00000000#32)))
    (Host.divf (broadcastInDim S1024x1 ![0] bcast_S1024_S1024x1_0 (Host.reduceAdd (mulf (centred x) (centred x)) (constant S_ .f32 0x00000000#32) reducesTo_S1024x512_S1024_d1 h_S_))
      (broadcastInDim S1024x1 ![] bcast_S_S1024x1 count))
    (broadcastInDim S1024x1 ![] bcast_S_S1024x1 (id (constant S_ .f32 0x7FC00000#32)))

/-- The column of row scales. -/
def scaleCol : FVec Ideal S1024x1 .f32 :=
  Host.divf (broadcastInDim S1024x1 ![] bcast_S_S1024x1 (constant S_ .f32 0x3F800000#32))
    (Host.sqrt (addf (varCol x) (broadcastInDim S1024x1 ![] bcast_S_S1024x1 (constant S_ .f32 0x3727C5AC#32))))

/-- The summands of the gain's gradient. -/
def terms : FVec Ideal S1024x512 .f32 :=
  mulf dy (mulf (centred x) (broadcastInDim S1024x512 ![0, 1] bcast_S1024x1_S1024x512_0_1 (scaleCol x)))

/-- The reference's result as a function of its first two arguments. -/
def result : FVec Ideal S2x512 .f32 :=
  concatenate S2x512 0
    [⟨S1x512, broadcastInDim S1x512 ![1] bcast_S512_S1x512_1 (Host.reduceAdd (terms x dy) (constant S_ .f32 0x00000000#32) reducesTo_S1024x512_S512_d0 h_S_)⟩,
      ⟨S1x512, broadcastInDim S1x512 ![1] bcast_S512_S1x512_1 (Host.reduceAdd dy (constant S_ .f32 0x00000000#32) reducesTo_S1024x512_S512_d0 h_S_)⟩]
    concatenates_S1x512_S1x512_S2x512_d0

/-- A row's mean. -/
theorem meanCol_apply (r : Fin 1024) : meanCol x (ix2 r 0) = mean fun k => x (ix2 r k) := by
  pointwise [meanCol, mean]

/-- A centred entry. -/
theorem centred_apply (r : Fin 1024) (j : Fin 512) : centred x (ix2 r j) = x (ix2 r j) - mean fun k => x (ix2 r k) := by
  pointwise [centred]
  rw [meanCol_apply]

/-- The averaging count is the row's length. -/
theorem count_apply (i : S_.Idx) : count i = Ideal.ofBits .f32 0x44000000#32 := by
  pointwise [count]
  rw [show (FloatOps.sitofp .f32 0#32 : Ideal .f32) = ((0 : ℝ) : EReal) by
    show (((0#32 : BitVec 32).toInt : ℝ) : EReal) = _
    simp, EReal.coe_zero, sub_zero]

/-- A row's variance is the mean square of the centred row: the guard holds. -/
theorem varCol_apply (r : Fin 1024) :
    varCol x (ix2 r 0) = Ideal.div (∑ k, (x (ix2 r k) - mean fun k => x (ix2 r k)) * (x (ix2 r k) - mean fun k => x (ix2 r k)))
      (Ideal.ofBits .f32 0x44000000#32) := by
  pointwise [varCol]
  simp only [count_apply, ofBits_length, centred_apply]
  rw [if_pos (by norm_num)]

/-- A row's scale. -/
theorem scaleCol_apply (r : Fin 1024) : scaleCol x (ix2 r 0) = twoPass fun k => x (ix2 r k) := by
  pointwise [scaleCol]
  rw [varCol_apply]
  rfl

/-- The result's first row: the gain's gradient. -/
theorem result_gamma (j : Fin 512) :
    result x dy (ix2 0 j) = ∑ r, dy (ix2 r j) * ((x (ix2 r j) - mean fun k => x (ix2 r k)) * twoPass fun k => x (ix2 r k)) := by
  pointwise [result, terms]
  simp only [centred_apply, scaleCol_apply]

/-- The result's second row: the offset's gradient. -/
theorem result_beta (j : Fin 512) : result x dy (ix2 1 j) = ∑ r, dy (ix2 r j) := by
  pointwise [result]

/-- The reference runs, its result array ending as that function of its arguments and its arguments as launched. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v19) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  Value.run m ρ

end Cert.RefValue

end
-- ==== Proof.Equation.lean ====
/-
  Kernel and reference compute the same rows: the reference's sums over all 1024 rows are the sums over a device's own 512
  rows plus the sums over its partner's.
-/
module

public import proofs.«01_k».proof.Defs
public import proofs.«01_k».proof.Proof.KernelValue
public import proofs.«01_k».proof.Proof.ReferenceValue

@[expose] public section

noncomputable section

namespace Cert.Exchange

open Cert.KernelIdeal Cert.KernelIdeal.Gen Cert.RowMaths
open Idealize.ShloMosaic
open Idealize.ShloMosaic.TcCoe

/-! ## Sums in quarters -/

/-- Row `r` of quarter `q` of the whole array's 1024 rows. -/
def rowAt (q : Fin 4) (r : Fin 256) : Fin 1024 := ⟨256 * q.val + r.val, by omega⟩

/-- A sum over all rows is the sum of its four quarters. -/
theorem sum_quarters (g : Fin 1024 → EReal) : ∑ i, g i = ∑ q, ∑ r, g (rowAt q r) := by
  rw [← Fintype.sum_prod_type' fun (q : Fin 4) (r : Fin 256) => g (rowAt q r)]
  refine (Fintype.sum_equiv (finProdFinEquiv : Fin 4 × Fin 256 ≃ Fin 1024) _ g fun p => congrArg g (Fin.ext ?_)).symm
  exact Nat.add_comm _ _

/-- The quarter that is the first half of device `c`'s block. -/
def topQ (c : Dev nD) : Fin 4 := ⟨2 * (c.val / 8), by have h : c.val < 16 := c.isLt; omega⟩
/-- The quarter that is the second half of device `c`'s block. -/
def botQ (c : Dev nD) : Fin 4 := ⟨2 * (c.val / 8) + 1, by have h : c.val < 16 := c.isLt; omega⟩

/-- A device's two quarters and its partner's two are all four. -/
theorem quarters_eq (c : Dev nD) (p : Fin 4 → EReal) :
    (p (topQ c) + p (botQ c)) + (p (topQ (peer c)) + p (botQ (peer c))) = ∑ q, p q := by
  have h : c.val < 16 := c.isLt
  have hp : (peer c).val = (c.val + 8) % 16 := rfl
  rw [Fin.sum_univ_four]
  rcases Nat.lt_or_ge c.val 8 with h8 | h8
  · rw [show topQ c = 0 from Fin.ext (by show 2 * (c.val / 8) = 0; omega),
      show botQ c = 1 from Fin.ext (by show 2 * (c.val / 8) + 1 = 1; omega),
      show topQ (peer c) = 2 from Fin.ext (by show 2 * ((peer c).val / 8) = 2; omega),
      show botQ (peer c) = 3 from Fin.ext (by show 2 * ((peer c).val / 8) + 1 = 3; omega)]
    exact (add_assoc _ _ _).symm
  · rw [show topQ c = 2 from Fin.ext (by show 2 * (c.val / 8) = 2; omega),
      show botQ c = 3 from Fin.ext (by show 2 * (c.val / 8) + 1 = 3; omega),
      show topQ (peer c) = 0 from Fin.ext (by show 2 * ((peer c).val / 8) = 0; omega),
      show botQ (peer c) = 1 from Fin.ext (by show 2 * ((peer c).val / 8) + 1 = 1; omega)]
    exact (add_comm _ _).trans (add_assoc _ _ _).symm

/-! ## A device's block -/

/-- Device `c`'s block of an array cut along the first mesh axis. -/
abbrev blockOf (c : Dev nD) (v : FVec Ideal ⟨2, ![1024, 512]⟩ .f32) : FVec Ideal S512x512 .f32 :=
  Layout.blockN ⟨2, ![512, 512]⟩ ⟨2, ![1024, 512]⟩ (Layout.meshBlock [2, 2, 4] ![[0], []] c) v

/-- An entry of device `c`'s block is the whole array's, the row counted from the block's first. -/
theorem blockOf_apply (c : Dev nD) (v : FVec Ideal ⟨2, ![1024, 512]⟩ .f32) (r : Fin 512) (k : Fin 512) (R : Fin 1024)
    (hR : R.val = c.val / 8 * 512 + r.val) : blockOf c v (ix2 r k) = v (ix2 R k) := by
  have h : c.val < 16 := c.isLt
  refine congrArg v (funext fun a => Fin.ext ?_)
  match a with
  | ⟨0, _⟩ =>
    show Layout.meshLin [2, 2, 4] c.val [0] * 512 + r.val = R.val
    have e : Layout.meshLin [2, 2, 4] c.val [0] = c.val / 8 % 2 * 1 + 0 := rfl
    omega
  | ⟨1, _⟩ =>
    show 0 * 512 + k.val = k.val
    omega

variable (m : (ℓ : Loc nD τ sig) → Buf (Elt Ideal) ℓ)

/-- An array's first 256 rows, read through the memref of that half. -/
theorem read_top {f : FVec Ideal S512x512 .f32} (r : Fin 256) (k : Fin 512) :
    (xIn.slice topR (fun _ => rfl)).view.read (Elt Ideal) f (ix2 r k) = f (ix2 ⟨r.val, by omega⟩ k) := by
  refine congrArg f (funext fun a => Fin.ext ?_)
  match a with
  | ⟨0, _⟩ => show 0 + 1 * r.val = r.val; omega
  | ⟨1, _⟩ => show 0 + 1 * k.val = k.val; omega

/-- An array's last 256 rows, read through the memref of that half. -/
theorem read_bot {f : FVec Ideal S512x512 .f32} (r : Fin 256) (k : Fin 512) :
    (xIn.slice botR (fun _ => rfl)).view.read (Elt Ideal) f (ix2 r k) = f (ix2 ⟨256 + r.val, by omega⟩ k) := by
  refine congrArg f (funext fun a => Fin.ext ?_)
  match a with
  | ⟨0, _⟩ => show 256 + 1 * r.val = 256 + r.val; omega
  | ⟨1, _⟩ => show 0 + 1 * k.val = k.val; omega

variable (x dy : FVec Ideal ⟨2, ![1024, 512]⟩ .f32)

/-- The first half of a device's block holds the rows of its first quarter. -/
theorem top_rows (c : Dev nD) (v : FVec Ideal ⟨2, ![1024, 512]⟩ .f32) {f : FVec Ideal S512x512 .f32} (hf : f = blockOf c v)
    (r : Fin 256) (k : Fin 512) :
    (xIn.slice topR (fun _ => rfl)).view.read (Elt Ideal) f (ix2 r k) = v (ix2 (rowAt (topQ c) r) k) := by
  rw [read_top, hf]
  exact blockOf_apply c v _ k _ (by show 256 * (2 * (c.val / 8)) + r.val = _; simp only; omega)

/-- The second half of a device's block holds the rows of its second quarter. -/
theorem bot_rows (c : Dev nD) (v : FVec Ideal ⟨2, ![1024, 512]⟩ .f32) {f : FVec Ideal S512x512 .f32} (hf : f = blockOf c v)
    (r : Fin 256) (k : Fin 512) :
    (xIn.slice botR (fun _ => rfl)).view.read (Elt Ideal) f (ix2 r k) = v (ix2 (rowAt (botQ c) r) k) := by
  rw [read_bot, hf]
  exact blockOf_apply c v _ k _ (by show 256 * (2 * (c.val / 8) + 1) + r.val = _; simp only; omega)

/-! ## The partial sums -/

/-- The reference's summand of the gain's gradient at row `i`, column `j`. -/
def refTerm (j : Fin 512) (i : Fin 1024) : EReal :=
  dy (ix2 i j) * ((x (ix2 i j) - mean fun k => x (ix2 i k)) * twoPass fun k => x (ix2 i k))

/-- A kernel summand over rows that are rows of the whole array is the reference's summand there, for finite rows. -/
theorem term_eq (hx : ∀ i k, x (ix2 i k) ≠ ⊤ ∧ x (ix2 i k) ≠ ⊥) (q : Fin 4) (u w : FVec Ideal S256x512 .f32)
    (hu : ∀ r k, u (ix2 r k) = x (ix2 (rowAt q r) k)) (hw : ∀ r k, w (ix2 r k) = dy (ix2 (rowAt q r) k)) (j : Fin 512) (r : Fin 256) :
    term u w j r = refTerm x dy j (rowAt q r) := by
  unfold term refTerm
  simp only [hu, hw]
  rw [normalised_eq (fun k => x (ix2 (rowAt q r) k)) (fun k => hx _ k) j]

variable (hx : ∀ i k, x (ix2 i k) ≠ ⊤ ∧ x (ix2 i k) ≠ ⊥)
  (hm0 : ∀ c : Dev nD, m ((c : Thread nD τ).loc main_arg0) = blockOf c x)
  (hm1 : ∀ c : Dev nD, m ((c : Thread nD τ).loc main_arg1) = blockOf c dy)

include hx hm0 hm1 in
/-- A device's partial sums for the gain are the reference's over the device's two quarters of the rows. -/
theorem gammaSum_eq (c : Dev nD) (j : Fin 512) :
    gammaSum m c (ix3 0 0 j) = ∑ r, refTerm x dy j (rowAt (topQ c) r) + ∑ r, refTerm x dy j (rowAt (botQ c) r) := by
  refine (gamma_apply (xTop m c) (dyTop m c) (xBot m c) (dyBot m c) j).trans (congrArg₂ _ ?_ ?_)
  · exact Finset.sum_congr rfl fun r _ => term_eq x dy hx (topQ c) _ _ (top_rows c x (hm0 c)) (top_rows c dy (hm1 c)) j r
  · exact Finset.sum_congr rfl fun r _ => term_eq x dy hx (botQ c) _ _ (bot_rows c x (hm0 c)) (bot_rows c dy (hm1 c)) j r

include hm1 in
/-- A device's partial sums for the offset are the whole array's over the device's two quarters of the rows. -/
theorem betaSum_eq (c : Dev nD) (j : Fin 512) :
    betaSum m c (ix3 0 0 j) = ∑ r, dy (ix2 (rowAt (topQ c) r) j) + ∑ r, dy (ix2 (rowAt (botQ c) r) j) := by
  refine (beta_apply (dyTop m c) (dyBot m c) j).trans (congrArg₂ _ ?_ ?_)
  · exact Finset.sum_congr rfl fun r _ => top_rows c dy (hm1 c) r j
  · exact Finset.sum_congr rfl fun r _ => bot_rows c dy (hm1 c) r j

include hx hm0 hm1 in
/-- On every device the kernel's result is the reference's. -/
theorem outAt_eq (c : Dev nD) : outAt m c = RefValue.result x dy := by
  funext i
  obtain ⟨a, j, rfl⟩ : ∃ (a : Fin 2) (j : Fin 512), i = ix2 a j := ⟨i 0, i 1, by
    funext b; match b with | ⟨0, _⟩ => rfl | ⟨1, _⟩ => rfl⟩
  rcases (by omega : a = 0 ∨ a = 1) with rfl | rfl
  · rw [RefValue.result_gamma]
    show gammaSum m c (ix3 0 0 j) + gammaSum m (peer c) (ix3 0 0 j) = ∑ i, refTerm x dy j i
    rw [gammaSum_eq m x dy hx hm0 hm1, gammaSum_eq m x dy hx hm0 hm1, sum_quarters]
    exact quarters_eq c fun q => ∑ r, refTerm x dy j (rowAt q r)
  · rw [RefValue.result_beta]
    show betaSum m c (ix3 0 0 j) + betaSum m (peer c) (ix3 0 0 j) = ∑ i, dy (ix2 i j)
    rw [betaSum_eq m dy hm1, betaSum_eq m dy hm1, sum_quarters]
    exact quarters_eq c fun q => ∑ r, dy (ix2 (rowAt q r) j)

/-! ## What the precondition says -/

/-- An extended real whose magnitude is below the pattern of infinity is finite. -/
theorem finite_of_lt {a : EReal} (h : Ideal.cmp .olt (max a (-a)) (Ideal.ofBits .f32 0x7F800000#32) = 1#1) : a ≠ ⊤ ∧ a ≠ ⊥ := by
  have e : Ideal.ofBits .f32 0x7F800000#32 = ⊤ := by simp [Ideal.ofBits, Ideal.ieee]
  rw [e] at h
  constructor
  · rintro rfl
    simp [Ideal.cmp] at h
  · rintro rfl
    simp [Ideal.cmp] at h

include hm0 in
/-- Under the precondition every entry of the whole array is finite: each row is in some device's block. -/
theorem finite_of_pre [Cert.Pre_finite_x_KernelIdeal.Facts] (hpre : Cert.Pre_KernelIdeal_finite_x_KernelIdeal m) (i : Fin 1024) (k : Fin 512) :
    x (ix2 i k) ≠ ⊤ ∧ x (ix2 i k) ≠ ⊥ := by
  let c : Dev nD := ⟨i.val / 512 * 8, by show i.val / 512 * 8 < 16; omega⟩
  let r : Fin 512 := ⟨i.val % 512, by omega⟩
  have hc := finite_of_lt (congrFun (hpre c) (ix2 r k))
  have e : m ((c : Thread nD τ).loc main_arg0) (ix2 r k) = x (ix2 i k) := by
    rw [hm0 c]
    exact blockOf_apply c x r k i (by show i.val = i.val / 512 * 8 / 8 * 512 + i.val % 512; omega)
  rw [← e]
  exact hc

end Cert.Exchange

end
-- ==== Proof.lean ====
/-
  The certificate. One run, proved for any float values, gives the kernel's frame at machine floats and at exact
  arithmetic; the reference's run gives its frame; and the two results are one function of the whole arrays.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The precondition's shape fact over the kernel's block. -/
theorem pre_block_facts : Cert.Pre_finite_x_KernelIdeal.Facts := ⟨by decide⟩

/-- The precondition's shape fact over the whole array. -/
theorem pre_whole_facts : Cert.Pre_finite_x_ReferenceIdeal.Facts := ⟨by decide⟩

/-- At machine floats the kernel terminates with its arguments unchanged and every semaphore at zero. -/
theorem frame_kernel : Cert.quiescent_Kernel (hKernel := Cert.Kernel.Gen.facts) := fun m g _ =>
  (θ_run Cert.KernelIdeal.defs _ _).mono (fun _ h => ⟨fun c => (h.1 c).2, h.2⟩) (Cert.Exchange.run_main (F := Bits) m g)

/-- So it does at exact arithmetic. -/
theorem frame_kernel_ideal : Cert.quiescent_KernelIdeal (hKernelIdeal := Cert.KernelIdeal.Gen.facts) := fun m g _ =>
  (θ_run Cert.KernelIdeal.defs _ _).mono (fun _ h => ⟨fun c => (h.1 c).2, h.2⟩) (Cert.Exchange.run_main (F := Ideal) m g)

/-- The reference terminates with its arguments unchanged; it has no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.RefValue.run_result m g)

/-- From blocks of finite arrays every device's result is the reference's result on the whole arrays. -/
theorem algebraic : Cert.algebraic_KernelIdeal_ReferenceIdeal_pre_finite_x_KernelIdeal (hKernelIdeal := Cert.KernelIdeal.Gen.facts)
    (hReferenceIdeal := Cert.ReferenceIdeal.Gen.facts) (hPre_finite_x_KernelIdeal := pre_block_facts) := fun m g m' g' hpre hargs =>
  ⟨Cert.RefValue.result _ _,
    (θ_run Cert.KernelIdeal.defs _ _).mono (fun _ h c => ⟨(h.1 c).1.trans (Cert.Exchange.outAt_eq m _ _
        (haveI := pre_block_facts; Cert.Exchange.finite_of_pre m _ (fun c => (hargs c).1) hpre) (fun c => (hargs c).1)
        (fun c => (hargs c).2.1) c), (h.1 c).2⟩)
      (Cert.Exchange.run_main (F := Ideal) m g),
    (θ_run Cert.ReferenceIdeal.defs _ _).mono (fun _ h => h 0) (Cert.RefValue.run_result m' g')⟩

/-- Everything the certificate claims. -/
theorem claim : Cert.Claim :=
  ⟨Cert.Kernel.Gen.facts, Cert.KernelIdeal.Gen.facts, Cert.ReferenceIdeal.Gen.facts, pre_block_facts, pre_whole_facts,
    frame_kernel, frame_kernel_ideal, fun m g _ => frame_kernel_ideal m g trivial, frame_reference,
    fun m g _ => frame_reference m g trivial, trivial, algebraic⟩

end Cert.Proof

end
